-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_with_a_gate [hPre_rows_with_a_gate : Cert.Pre_rows_with_a_gate.Facts] (m : (ℓ : Loc Cert.KernelIdeal.nD Cert.KernelIdeal.τ Cert.KernelIdeal.sig) → Buf (Elt Ideal) ℓ) : Prop :=
  ∀ c : Dev Cert.KernelIdeal.nD,
    (Cert.Pre_rows_with_a_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_with_a_gate [hPre_rows_with_a_gate : Cert.Pre_rows_with_a_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_with_a_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_with_a_gate [hKernelIdeal : Cert.KernelIdeal.Facts] [hPre_rows_with_a_gate : Cert.Pre_rows_with_a_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_with_a_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_with_a_gate [hReferenceIdeal : Cert.ReferenceIdeal.Facts] [hPre_rows_with_a_gate : Cert.Pre_rows_with_a_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_with_a_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_with_a_gate [hKernelIdeal : Cert.KernelIdeal.Facts] [hReferenceIdeal : Cert.ReferenceIdeal.Facts] [hPre_rows_with_a_gate : Cert.Pre_rows_with_a_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_with_a_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_with_a_gate : Cert.Pre_rows_with_a_gate.Facts),
    quiescent_Kernel (hKernel := hKernel)
    ∧ quiescent_KernelIdeal (hKernelIdeal := hKernelIdeal)
    ∧ quiescent_KernelIdeal_pre_rows_with_a_gate (hKernelIdeal := hKernelIdeal) (hPre_rows_with_a_gate := hPre_rows_with_a_gate)
    ∧ quiescent_ReferenceIdeal (hReferenceIdeal := hReferenceIdeal)
    ∧ quiescent_ReferenceIdeal_pre_rows_with_a_gate (hReferenceIdeal := hReferenceIdeal) (hPre_rows_with_a_gate := hPre_rows_with_a_gate)
    ∧ preserves_Kernel_KernelIdeal
    ∧ algebraic_KernelIdeal_ReferenceIdeal_pre_rows_with_a_gate (hKernelIdeal := hKernelIdeal) (hReferenceIdeal := hReferenceIdeal) (hPre_rows_with_a_gate := hPre_rows_with_a_gate)
-- ==== Pre_rows_with_a_gate.lean ====
abbrev S50000x256 : Shape := ⟨2, ![50000, 256]⟩
abbrev S50000 : Shape := ⟨1, ![50000]⟩
abbrev S256x1 : Shape := ⟨2, ![256, 1]⟩
abbrev S1 : Shape := ⟨1, ![1]⟩
abbrev S50000x1 : Shape := ⟨2, ![50000, 1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S_S50000 : S_.BroadcastsInDim S50000 (![] : Fin 0 → Fin S50000.rank)
  dot_S50000x256_S256x1_S50000x1_1_0_0_1_n_n_wf : DotDims.WF S50000x256 S256x1 S50000x1 [1] [0] [0] [1] [] []

variable [Facts]

def dot_S50000x256_S256x1_S50000x1_1_0_0_1_n_n : DotDims S50000x256 S256x1 S50000x1 where
  lhsContracting := [1]
  rhsContracting := [0]
  lhsNonContracting := [0]
  rhsNonContracting := [1]
  lhsBatch := []
  rhsBatch := []
  wf := dot_S50000x256_S256x1_S50000x1_1_0_0_1_n_n_wf
def fn {F : FTy → Type} [FloatOps F] (main_arg0 : FVec F S50000x256 .f32) (main_arg1 : IVec S50000 32) (main_arg2 : FVec F S256x1 .f32) (main_arg3 : FVec F S1 .f32) : IVec S50000 1 :=
  let main_v0 : FVec F S50000x1 .f32 := (fun l r => Host.dotGeneral dot_S50000x256_S256x1_S50000x1_1_0_0_1_n_n none l r) main_arg0 main_arg2
  let main_v1 : FVec F S1x1 .f32 := broadcastInDim S1x1 ![1] bcast_S1_S1x1_1 main_arg3
  let main_v2 : FVec F S50000x1 .f32 := broadcastInDim S50000x1 ![0, 1] bcast_S1x1_S50000x1_0_1 main_v1
  let main_v3 : FVec F S50000x1 .f32 := addf main_v0 main_v2
  let main_v4 : FVec F S50000 .f32 := shapeCast S50000 main_v3 shapeCasts_S50000x1_S50000
  let main_c : IVec S_ 32 := constantI S_ 32 0#32
  let main_v5 : IVec S50000 32 := broadcastInDim S50000 ![] bcast_S_S50000 main_c
  let main_v6 : IVec S50000 1 := cmpi .sge main_arg1 main_v5
  let main_c_0 : IVec S_ 32 := constantI S_ 32 512#32
  let main_v7 : IVec S50000 32 := broadcastInDim S50000 ![] bcast_S_S50000 main_c_0
  let main_v8 : IVec S50000 1 := cmpi .slt main_arg1 main_v7
  let main_v9 : IVec S50000 1 := andi main_v6 main_v8
  let main_cst : FVec F S_ .f32 := constant S_ .f32 0xFF800000#32
  let main_v10 : FVec F S50000 .f32 := broadcastInDim S50000 ![] bcast_S_S50000 main_cst
  let main_v11 : IVec S50000 1 := cmpf .ogt main_v4 main_v10
  let main_v12 : IVec S50000 1 := andi main_v9 main_v11
  main_v12
-- ==== Kernel.lean ====
abbrev S50000x256 : Shape := ⟨2, ![50000, 256]⟩
abbrev S50000 : Shape := ⟨1, ![50000]⟩
abbrev S256x1 : Shape := ⟨2, ![256, 1]⟩
abbrev S1 : Shape := ⟨1, ![1]⟩
abbrev S_ : Shape := ⟨0, ![]⟩
abbrev S50176 : Shape := ⟨1, ![50176]⟩
abbrev S7x1x7168 : Shape := ⟨3, ![7, 1, 7168]⟩
abbrev S1x1 : Shape := ⟨2, ![1, 1]⟩
abbrev S512x256 : Shape := ⟨2, ![512, 256]⟩
abbrev S7168x256 : Shape := ⟨2, ![7168, 256]⟩
abbrev S1x1x7168 : Shape := ⟨3, ![1, 1, 7168]⟩
abbrev S512x1 : Shape := ⟨2, ![512, 1]⟩
abbrev S7168x1 : Shape := ⟨2, ![7168, 1]⟩
abbrev S1x7168 : Shape := ⟨2, ![1, 7168]⟩
abbrev S512x7168 : Shape := ⟨2, ![512, 7168]⟩
abbrev S7168x128 : Shape := ⟨2, ![7168, 128]⟩
abbrev S512x128 : Shape := ⟨2, ![512, 128]⟩

abbrev nBuf : Space → Nat
  | .hbm => 10
  | .vmem => 9
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x1, .f32⟩
  | .hbm, ⟨3, _⟩ => ⟨S1, .f32⟩
  | .hbm, ⟨4, _⟩ => ⟨S_, .i32⟩
  | .hbm, ⟨5, _⟩ => ⟨S_, .i32⟩
  | .hbm, ⟨6, _⟩ => ⟨S50176, .i32⟩
  | .hbm, ⟨7, _⟩ => ⟨S7x1x7168, .i32⟩
  | .hbm, ⟨8, _⟩ => ⟨S1x1, .f32⟩
  | .hbm, ⟨9, _⟩ => ⟨S512x256, .f32⟩
  | .local _ .vmem, ⟨0, _⟩ => ⟨S7168x256, .f32⟩
  | .local _ .vmem, ⟨1, _⟩ => ⟨S7168x256, .f32⟩
  | .local _ .vmem, ⟨2, _⟩ => ⟨S1x1x7168, .i32⟩
  | .local _ .vmem, ⟨3, _⟩ => ⟨S1x1x7168, .i32⟩
  | .local _ .vmem, ⟨4, _⟩ => ⟨S256x1, .f32⟩
  | .local _ .vmem, ⟨5, _⟩ => ⟨S1x1, .f32⟩
  | .local _ .vmem, ⟨6, _⟩ => ⟨S512x256, .f32⟩
  | .local _ .vmem, ⟨7, _⟩ => ⟨S512x256, .f32⟩
  | .local _ .vmem, ⟨8, _⟩ => ⟨S512x1, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_call0_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![7], ![false]⟩

def k0_cond2 (i : grid0.Coords) : BitVec 1 :=
  let arg0 : BitVec 32 := BitVec.ofNat 32 (i 0).val
  let c6_i32 : BitVec 32 := 6#32
  let v48 : BitVec 1 := Scalar.cmpi .eq arg0 c6_i32
  let v49 : BitVec 32 := Scalar.extui v48
  let c0_i32_22 : BitVec 32 := 0#32
  let v50 : BitVec 1 := Scalar.cmpi .ne v49 c0_i32_22
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S7168x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x7168 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S50000x256 : Shape := ⟨2, ![50000, 256]⟩
abbrev S50000 : Shape := ⟨1, ![50000]⟩
abbrev S256x1 : Shape := ⟨2, ![256, 1]⟩
abbrev S1 : Shape := ⟨1, ![1]⟩
abbrev S50000x1 : Shape := ⟨2, ![50000, 1]⟩
abbrev S1x1 : Shape := ⟨2, ![1, 1]⟩
abbrev S512 : Shape := ⟨1, ![512]⟩
abbrev S512x1 : Shape := ⟨2, ![512, 1]⟩
abbrev S1x50000 : Shape := ⟨2, ![1, 50000]⟩
abbrev S512x50000 : Shape := ⟨2, ![512, 50000]⟩
abbrev S_ : Shape := ⟨0, ![]⟩
abbrev S512x256 : Shape := ⟨2, ![512, 256]⟩

abbrev nBuf : Space → Nat
  | .hbm => 63
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x1, .f32⟩
  | .hbm, ⟨3, _⟩ => ⟨S1, .f32⟩
  | .hbm, ⟨4, _⟩ => ⟨S50000x1, .f32⟩
  | .hbm, ⟨5, _⟩ => ⟨S1x1, .f32⟩
  | .hbm, ⟨6, _⟩ => ⟨S50000x1, .f32⟩
  | .hbm, ⟨7, _⟩ => ⟨S50000x1, .f32⟩
  | .hbm, ⟨8, _⟩ => ⟨S50000, .f32⟩
  | .hbm, ⟨9, _⟩ => ⟨S512, .i32⟩
  | .hbm, ⟨10, _⟩ => ⟨S512x1, .i32⟩
  | .hbm, ⟨11, _⟩ => ⟨S1x50000, .i32⟩
  | .hbm, ⟨12, _⟩ => ⟨S512x50000, .i32⟩
  | .hbm, ⟨13, _⟩ => ⟨S512x50000, .i32⟩
  | .hbm, ⟨14, _⟩ => ⟨S512x50000, .i1⟩
  | .hbm, ⟨15, _⟩ => ⟨S1x50000, .f32⟩
  | .hbm, ⟨16, _⟩ => ⟨S_, .f32⟩
  | .hbm, ⟨17, _⟩ => ⟨S_, .f32⟩
  | .hbm, ⟨18, _⟩ => ⟨S512x50000, .f32⟩
  | .hbm, ⟨19, _⟩ => ⟨S512x50000, .f32⟩
  | .hbm, ⟨20, _⟩ => ⟨S512x50000, .f32⟩
  | .hbm, ⟨21, _⟩ => ⟨S_, .f32⟩
  | .hbm, ⟨22, _⟩ => ⟨S512, .f32⟩
  | .hbm, ⟨23, _⟩ => ⟨S512, .f32⟩
  | .hbm, ⟨24, _⟩ => ⟨S_, .f32⟩
  | .hbm, ⟨25, _⟩ => ⟨S512, .f32⟩
  | .hbm, ⟨26, _⟩ => ⟨S512, .i1⟩
  | .hbm, ⟨27, _⟩ => ⟨S_, .f32⟩
  | .hbm, ⟨28, _⟩ => ⟨S_, .f32⟩
  | .hbm, ⟨29, _⟩ => ⟨S512, .f32⟩
  | .hbm, ⟨30, _⟩ => ⟨S512, .f32⟩
  | .hbm, ⟨31, _⟩ => ⟨S_, .i32⟩
  | .hbm, ⟨32, _⟩ => ⟨S50000, .i32⟩
  | .hbm, ⟨33, _⟩ => ⟨S50000, .i1⟩
  | .hbm, ⟨34, _⟩ => ⟨S_, .i32⟩
  | .hbm, ⟨35, _⟩ => ⟨S50000, .i32⟩
  | .hbm, ⟨36, _⟩ => ⟨S50000, .i32⟩
  | .hbm, ⟨37, _⟩ => ⟨S50000, .i32⟩
  | .hbm, ⟨38, _⟩ => ⟨S50000x1, .i32⟩
  | .hbm, ⟨39, _⟩ => ⟨S50000, .f32⟩
  | .hbm, ⟨40, _⟩ => ⟨S50000, .f32⟩
  | .hbm, ⟨41, _⟩ => ⟨S50000, .f32⟩
  | .hbm, ⟨42, _⟩ => ⟨S_, .f32⟩
  | .hbm, ⟨43, _⟩ => ⟨S512, .f32⟩
  | .hbm, ⟨44, _⟩ => ⟨S50000x1, .i32⟩
  | .hbm, ⟨45, _⟩ => ⟨S512, .f32⟩
  | .hbm, ⟨46, _⟩ => ⟨S_, .i32⟩
  | .hbm, ⟨47, _⟩ => ⟨S50000, .i32⟩
  | .hbm, ⟨48, _⟩ => ⟨S50000, .i1⟩
  | .hbm, ⟨49, _⟩ => ⟨S_, .i32⟩
  | .hbm, ⟨50, _⟩ => ⟨S50000, .i32⟩
  | .hbm, ⟨51, _⟩ => ⟨S50000, .i32⟩
  | .hbm, ⟨52, _⟩ => ⟨S50000, .i32⟩
  | .hbm, ⟨53, _⟩ => ⟨S50000x1, .i32⟩
  | .hbm, ⟨54, _⟩ => ⟨S50000, .f32⟩
  | .hbm, ⟨55, _⟩ => ⟨S50000, .f32⟩
  | .hbm, ⟨56, _⟩ => ⟨S50000x1, .f32⟩
  | .hbm, ⟨57, _⟩ => ⟨S50000x256, .f32⟩
  | .hbm, ⟨58, _⟩ => ⟨S50000x256, .f32⟩
  | .hbm, ⟨59, _⟩ => ⟨S_, .f32⟩
  | .hbm, ⟨60, _⟩ => ⟨S512x256, .f32⟩
  | .hbm, ⟨61, _⟩ => ⟨S50000x1, .i32⟩
  | .hbm, ⟨62, _⟩ => ⟨S512x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_call1_v0 : Ref sig .tc := ⟨.hbm, 28, rfl⟩
abbrev main_call1_v1 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Proof.Ideal.Runs.lean ====
/-
  The kernel's body at one grid point, run on any whole staging buffers.

  `accNext` and `zNext` are what the body adds to the two buffers it carries between the points: the rows of the block
  weighted by the exponentials of their gates, summed per segment, and the exponentials themselves. The three theorems
  `run_first`, `run_mid` and `run_last` say what the body leaves at the first point (the two buffers cleared, then
  updated), at a point between (updated) and at the last one (updated, and their quotient stored into the result's
  buffer).
-/
module

public import proofs.«01_k».proof.Proof.Gen.KernelIdeal.Frame
public import proofs.«01_k».proof.Proof.Gen.KernelIdeal.Skeleton
public import Idealize.ShloMosaic.Lib.Pipeline.Value

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

/-- The accumulated weighted rows after the body at coordinates `i`, from those before it: the block of rows `x`, of
    segment numbers `b`, the weights `w` and the bias `g`. -/
def accNext (i : grid0.Coords) (x : Vec F S7168x256 .f32) (b : Vec F S1x1x7168 .i32) (w : Vec F S256x1 .f32) (g : Vec F S1x1 .f32)
    (acc : Vec F S512x256 .f32) : Vec F S512x256 .f32 :=
  k0_pay2 (k0_pay6 i x) (k0_pay7 i x b w g) acc

/-- The accumulated exponentials likewise. -/
def zNext (i : grid0.Coords) (x : Vec F S7168x256 .f32) (b : Vec F S1x1x7168 .i32) (w : Vec F S256x1 .f32) (g : Vec F S1x1 .f32)
    (z : Vec F S512x1 .f32) : Vec F S512x1 .f32 :=
  k0_pay1 z (k0_pay8 i x b w g)

/-- The body's first condition, that the point is the first one. -/
abbrev atFirst (i : grid0.Coords) : Prop :=
  (Scalar.cmpi .ne (Scalar.extui (Scalar.cmpi .eq (BitVec.ofNat 32 (i 0).val) 0#32)) 0#32) = 1#1
/-- The body's second condition, that the point is the last one. -/
abbrev atLast (i : grid0.Coords) : Prop := k0_cond2 i = 1#1

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- What a buffer reads after stores the last of which is of the whole buffer: that store's value. -/
theorem read_stored {κ : Kind} {sp : Space} {S : Shape} {e : EltTy} (v : View sig κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- What a load of a whole buffer reads of contents that were given by what they read: those. -/
theorem load_whole {κ : Kind} {sp : Space} {S : Shape} {e : EltTy} (v : View sig κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb _

set_option maxHeartbeats 2000000 in
/-- The body at the first point: whatever the carried buffers held, they end updated from zero, and the result's buffer stays as
    it was. -/
theorem run_first (c : Dev nD) (i : grid0.Coords) (a1 : Memref sig .tc .vmem S7168x256 .f32) (h1 : a1.IsWhole)
    (a2 : Memref sig .tc .vmem S1x1x7168 .i32) (h2 : a2.IsWhole) (a3 : Memref sig .tc .vmem S256x1 .f32) (h3 : a3.IsWhole)
    (a4 : Memref sig .tc .vmem S1x1 .f32) (h4 : a4.IsWhole) (a5 : Memref sig .tc .vmem S512x256 .f32) (h5 : a5.IsWhole)
    (a6 : Memref sig .tc .vmem S512x256 .f32) (h6 : a6.IsWhole) (a7 : Memref sig .tc .vmem S512x1 .f32) (h7 : a7.IsWhole)
    (hc0 : atFirst i) (hc1 : ¬atLast i)
    (x : Vec F S7168x256 .f32) (b : Vec F S1x1x7168 .i32) (w : Vec F S256x1 .f32) (g : Vec F S1x1 .f32)
    (o : Vec F S512x256 .f32)
    (E : Set ℕ) (K : PUnit → sProp 𝕄) :
    iprop(owns (c : Thread nD τ) a1 fullShare x ∗ owns (c : Thread nD τ) a2 fullShare b ∗ owns (c : Thread nD τ) a3 fullShare w ∗ owns (c : Thread nD τ) a4 fullShare g
          ∗ owns (c : Thread nD τ) a5 fullShare o ∗ (∃ d, owns (c : Thread nD τ) a6 fullShare d) ∗ (∃ d, owns (c : Thread nD τ) a7 fullShare d)
          ∗ (iprop(owns (c : Thread nD τ) a1 fullShare x ∗ owns (c : Thread nD τ) a2 fullShare b ∗ owns (c : Thread nD τ) a3 fullShare w ∗ owns (c : Thread nD τ) a4 fullShare g
              ∗ owns (c : Thread nD τ) a5 fullShare o
              ∗ owns (c : Thread nD τ) a6 fullShare (accNext i x b w g k0_pay4)
              ∗ owns (c : Thread nD τ) a7 fullShare (zNext i x b w g k0_pay5)) -∗ K ⟨⟩))
      ⊢ wp frame (wpE (defs₀ (F := F)) Variants.none c none) E (cc0__body i a1 h1 a2 h2 a3 h3 a4 h4 a5 h5 a6 h6 a7 h7) K := by
  simp only [cc0__body_eq_skeleton]; unfold cc0__body_skel
  simp only [k0_part1_eq_skeleton]
  unfold owns
  iintro ⟨⟨%f1, %e1, H1⟩, ⟨%f2, %e2, H2⟩, ⟨%f3, %e3, H3⟩, ⟨%f4, %e4, H4⟩, ⟨%f5, %e5, H5⟩, ⟨%d6, %f6, -, H6⟩, ⟨%d7, %f7, -, H7⟩, Hk⟩
  sl_exec (disch := first | sl_exact hc0 | sl_exact hc1)
  sl_step
  iapply Hk
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr
    swap; · iexact H6
    ipureintro
    rw [read_stored _ _ zeros2]
    sl_unfold_words
    rw [load_whole a1.view f1 zeros2, load_whole a2.view f2 zeros3, load_whole a3.view f3 zeros2, load_whole a4.view f4 zeros2, e1, e2, e3, e4, View.readCov_unit_zero _ zeros2]
    rfl
  · iexists _; isplitr
    swap; · iexact H7
    ipureintro
    rw [read_stored _ _ zeros2]
    sl_unfold_words
    rw [load_whole a1.view f1 zeros2, load_whole a2.view f2 zeros3, load_whole a3.view f3 zeros2, load_whole a4.view f4 zeros2, e1, e2, e3, e4, View.readCov_unit_zero _ zeros2]
    rfl

set_option maxHeartbeats 2000000 in
/-- The body at a point between the first and the last: the carried buffers are updated, and the result's buffer stays as it
    was. -/
theorem run_mid (c : Dev nD) (i : grid0.Coords) (a1 : Memref sig .tc .vmem S7168x256 .f32) (h1 : a1.IsWhole)
    (a2 : Memref sig .tc .vmem S1x1x7168 .i32) (h2 : a2.IsWhole) (a3 : Memref sig .tc .vmem S256x1 .f32) (h3 : a3.IsWhole)
    (a4 : Memref sig .tc .vmem S1x1 .f32) (h4 : a4.IsWhole) (a5 : Memref sig .tc .vmem S512x256 .f32) (h5 : a5.IsWhole)
    (a6 : Memref sig .tc .vmem S512x256 .f32) (h6 : a6.IsWhole) (a7 : Memref sig .tc .vmem S512x1 .f32) (h7 : a7.IsWhole)
    (hc0 : ¬atFirst i) (hc1 : ¬atLast i)
    (x : Vec F S7168x256 .f32) (b : Vec F S1x1x7168 .i32) (w : Vec F S256x1 .f32) (g : Vec F S1x1 .f32)
    (o : Vec F S512x256 .f32) (acc : Vec F S512x256 .f32) (z : Vec F S512x1 .f32)
    (E : Set ℕ) (K : PUnit → sProp 𝕄) :
    iprop(owns (c : Thread nD τ) a1 fullShare x ∗ owns (c : Thread nD τ) a2 fullShare b ∗ owns (c : Thread nD τ) a3 fullShare w ∗ owns (c : Thread nD τ) a4 fullShare g
          ∗ owns (c : Thread nD τ) a5 fullShare o ∗ owns (c : Thread nD τ) a6 fullShare acc ∗ owns (c : Thread nD τ) a7 fullShare z
          ∗ (iprop(owns (c : Thread nD τ) a1 fullShare x ∗ owns (c : Thread nD τ) a2 fullShare b ∗ owns (c : Thread nD τ) a3 fullShare w ∗ owns (c : Thread nD τ) a4 fullShare g
              ∗ owns (c : Thread nD τ) a5 fullShare o
              ∗ owns (c : Thread nD τ) a6 fullShare (accNext i x b w g acc)
              ∗ owns (c : Thread nD τ) a7 fullShare (zNext i x b w g z)) -∗ K ⟨⟩))
      ⊢ wp frame (wpE (defs₀ (F := F)) Variants.none c none) E (cc0__body i a1 h1 a2 h2 a3 h3 a4 h4 a5 h5 a6 h6 a7 h7) K := by
  simp only [cc0__body_eq_skeleton]; unfold cc0__body_skel
  simp only [k0_part1_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec (disch := first | sl_exact hc0 | sl_exact hc1)
  sl_step
  iapply Hk
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr
    swap; · iexact H6
    ipureintro
    rw [read_stored _ _ zeros2]
    sl_unfold_words
    rw [load_whole a1.view f1 zeros2, load_whole a2.view f2 zeros3, load_whole a3.view f3 zeros2, load_whole a4.view f4 zeros2, e1, e2, e3, e4, load_whole a6.view f6 zeros2, e6]
    rfl
  · iexists _; isplitr
    swap; · iexact H7
    ipureintro
    rw [read_stored _ _ zeros2]
    sl_unfold_words
    rw [load_whole a1.view f1 zeros2, load_whole a2.view f2 zeros3, load_whole a3.view f3 zeros2, load_whole a4.view f4 zeros2, e1, e2, e3, e4, load_whole a7.view f7 zeros2, e7]
    rfl

set_option maxHeartbeats 2000000 in
/-- The body at the last point: the carried buffers are updated, and the result's buffer gets their quotient. -/
theorem run_last (c : Dev nD) (i : grid0.Coords) (a1 : Memref sig .tc .vmem S7168x256 .f32) (h1 : a1.IsWhole)
    (a2 : Memref sig .tc .vmem S1x1x7168 .i32) (h2 : a2.IsWhole) (a3 : Memref sig .tc .vmem S256x1 .f32) (h3 : a3.IsWhole)
    (a4 : Memref sig .tc .vmem S1x1 .f32) (h4 : a4.IsWhole) (a5 : Memref sig .tc .vmem S512x256 .f32) (h5 : a5.IsWhole)
    (a6 : Memref sig .tc .vmem S512x256 .f32) (h6 : a6.IsWhole) (a7 : Memref sig .tc .vmem S512x1 .f32) (h7 : a7.IsWhole)
    (hc0 : ¬atFirst i) (hc1 : atLast i)
    (x : Vec F S7168x256 .f32) (b : Vec F S1x1x7168 .i32) (w : Vec F S256x1 .f32) (g : Vec F S1x1 .f32)
    (acc : Vec F S512x256 .f32) (z : Vec F S512x1 .f32)
    (E : Set ℕ) (K : PUnit → sProp 𝕄) :
    iprop(owns (c : Thread nD τ) a1 fullShare x ∗ owns (c : Thread nD τ) a2 fullShare b ∗ owns (c : Thread nD τ) a3 fullShare w ∗ owns (c : Thread nD τ) a4 fullShare g
          ∗ (∃ d, owns (c : Thread nD τ) a5 fullShare d) ∗ owns (c : Thread nD τ) a6 fullShare acc ∗ owns (c : Thread nD τ) a7 fullShare z
          ∗ (iprop(owns (c : Thread nD τ) a1 fullShare x ∗ owns (c : Thread nD τ) a2 fullShare b ∗ owns (c : Thread nD τ) a3 fullShare w ∗ owns (c : Thread nD τ) a4 fullShare g
              ∗ owns (c : Thread nD τ) a5 fullShare (k0_pay3 (zNext i x b w g z) (accNext i x b w g acc))
              ∗ owns (c : Thread nD τ) a6 fullShare (accNext i x b w g acc)
              ∗ owns (c : Thread nD τ) a7 fullShare (zNext i x b w g z)) -∗ K ⟨⟩))
      ⊢ wp frame (wpE (defs₀ (F := F)) Variants.none c none) E (cc0__body i a1 h1 a2 h2 a3 h3 a4 h4 a5 h5 a6 h6 a7 h7) K := by
  simp only [cc0__body_eq_skeleton]; unfold cc0__body_skel
  simp only [k0_part1_eq_skeleton]
  unfold owns
  iintro ⟨⟨%f1, %e1, H1⟩, ⟨%f2, %e2, H2⟩, ⟨%f3, %e3, H3⟩, ⟨%f4, %e4, H4⟩, ⟨%d5, %f5, -, H5⟩, ⟨%f6, %e6, H6⟩, ⟨%f7, %e7, H7⟩, Hk⟩
  sl_exec (disch := first | sl_exact hc0 | sl_exact hc1)
  sl_step
  iapply Hk
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr
    swap; · iexact H5
    ipureintro
    rw [read_stored _ _ zeros2]
    sl_unfold_words
    rw [load_whole a1.view f1 zeros2, load_whole a2.view f2 zeros3, load_whole a3.view f3 zeros2, load_whole a4.view f4 zeros2, e1, e2, e3, e4, load_whole a6.view f6 zeros2, e6, load_whole a7.view f7 zeros2, e7, View.readCov_unit_zero _ zeros2, View.readCov_unit_zero _ zeros2]
    rfl
  isplitl [H6]
  · iexists _; isplitr
    swap; · iexact H6
    ipureintro
    sl_unfold_words
    rw [read_stored _ _ zeros2, load_whole a1.view f1 zeros2, load_whole a2.view f2 zeros3, load_whole a3.view f3 zeros2, load_whole a4.view f4 zeros2, e1, e2, e3, e4, load_whole a6.view f6 zeros2, e6]
    rfl
  · iexists _; isplitr
    swap; · iexact H7
    ipureintro
    sl_unfold_words
    rw [read_stored _ _ zeros2, load_whole a1.view f1 zeros2, load_whole a2.view f2 zeros3, load_whole a3.view f3 zeros2, load_whole a4.view f4 zeros2, e1, e2, e3, e4, load_whole a7.view f7 zeros2, e7]
    rfl

end Cert.KernelIdeal.Pool

end
-- ==== Proof.Ideal.Mask.lean ====
/-
  The mask on a block of rows: the body reads, of what its first staging buffer holds, only the rows inside the array.
  At the last point the block overhangs the array, and the rows past its end are words nothing names;
  `pay6_fill` says that the masked block is the same whatever they are.
-/
module

public import proofs.«01_k».proof.Proof.Ideal.Runs
public import Idealize.ShloMosaic.Lib.Pointwise

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic

variable {F : FTy → Type} [FloatOps F]

/-- The number of a point is its coordinate. -/
theorem coord_val (t : Fin grid0.N) : (grid0.coords t 0).val = t.val := by
  have ht : t.val < 7 := Nat.lt_of_lt_of_eq t.isLt N_0
  have e0 : (grid0.coords t 0).val = t.val / 1 % 7 := Pipeline.Grid.coords_val t 0 (by decide) rfl
  omega

/-- The masked block at an element: the block's word, rounded, where the row is one of the 50000. -/
theorem pay6_apply (i : grid0.Coords) (v3 : Vec F S7168x256 .f32) (y : S7168x256.Idx) :
    k0_pay6 i v3 y = Scalar.select (Scalar.cmpi .slt (Scalar.addi (BitVec.ofNat 32 (y 0).val) (Scalar.muli (BitVec.ofNat 32 (i 0).val) 7168#32)) 50000#32)
      (FloatOps.truncf .bf16 bitsLt_bf16_f32 (v3 y)) (Scalar.ofBits .bf16 0x0000#16) := by
  unfold k0_pay6
  dsimp only
  idx_vars y
  pointwise
  rfl

/-- The mask's word at point `t` says whether the row is one of the 50000. -/
theorem mask_word (t : Fin grid0.N) (r : Fin 7168) :
    Scalar.cmpi .slt (Scalar.addi (BitVec.ofNat 32 r.val) (Scalar.muli (BitVec.ofNat 32 (grid0.coords t 0).val) 7168#32)) 50000#32
      = if r.val + 7168 * t.val < 50000 then 1#1 else 0#1 := by
  rw [coord_val t]
  have ht : t.val < 7 := Nat.lt_of_lt_of_eq t.isLt N_0
  have hr := r.isLt
  have e : Scalar.addi (BitVec.ofNat 32 r.val) (Scalar.muli (BitVec.ofNat 32 t.val) 7168#32) = BitVec.ofNat 32 (r.val + 7168 * t.val) := by
    show BitVec.ofNat 32 r.val + BitVec.ofNat 32 t.val * BitVec.ofNat 32 7168 = _
    rw [← BitVec.ofNat_mul, ← BitVec.ofNat_add, Nat.mul_comm t.val]
  rw [e]
  refine (WordCmp.cmpi_slt_ofNat (by omega) (by omega)).trans ?_
  by_cases h : r.val + 7168 * t.val < 50000
  · rw [if_pos h, decide_eq_true h]; rfl
  · rw [if_neg h, decide_eq_false h]; rfl

/-- The rows of the block at point `t` that lie inside the array. -/
theorem xsize_row : ∀ t : Fin grid0.N, win0_0.xsize (grid0.coords t) 0 = min 7168 (50000 - 7168 * t.val) := by
  decide +kernel
theorem xsize_col : ∀ t : Fin grid0.N, win0_0.xsize (grid0.coords t) 1 = 256 := by
  decide +kernel

theorem moved_row (t : Fin grid0.N) (y : S7168x256.Idx) :
    win0_0.moved (grid0.coords t) y = true ↔ (y 0).val + 7168 * t.val < 50000 := by
  rw [Pipeline.Window.moved_iff]
  have h0 := xsize_row t
  have h1 := xsize_col t
  have y0 : (y 0).val < 7168 := (y 0).isLt
  have y1 : (y 1).val < 256 := (y 1).isLt
  constructor
  · intro h
    have := h 0
    rw [h0] at this
    omega
  · intro h a
    fin_cases a
    · show (y 0).val < win0_0.xsize (grid0.coords t) 0
      rw [h0]; omega
    · show (y 1).val < win0_0.xsize (grid0.coords t) 1
      rw [h1]; omega

/-- The masked block does not depend on what the staging buffer held past the array's end. -/
theorem pay6_fill (t : Fin grid0.N) (d d' : S7168x256.Idx → Elt F .f32) (blk : (win0_0.xblock (grid0.coords t)).Idx → Elt F .f32) :
    k0_pay6 (grid0.coords t) (win0_0.fill (grid0.coords t) d blk) = k0_pay6 (grid0.coords t) (win0_0.fill (grid0.coords t) d' blk) := by
  funext y
  rw [pay6_apply, pay6_apply, mask_word t (y 0)]
  by_cases h : (y 0).val + 7168 * t.val < 50000
  · have hm := (moved_row t y).mpr h
    have e : win0_0.fill (grid0.coords t) d blk y = win0_0.fill (grid0.coords t) d' blk y := by
      unfold Pipeline.Window.fill
      rw [dif_pos hm, dif_pos hm]
    rw [e]
  · rw [if_neg h]; rfl

/-- So neither do the updates. -/
theorem accNext_fill (t : Fin grid0.N) (d d' : S7168x256.Idx → Elt F .f32) (blk : (win0_0.xblock (grid0.coords t)).Idx → Elt F .f32)
    (b : Vec F S1x1x7168 .i32) (w : Vec F S256x1 .f32) (g : Vec F S1x1 .f32) (acc : Vec F S512x256 .f32) :
    accNext (grid0.coords t) (win0_0.fill (grid0.coords t) d blk) b w g acc = accNext (grid0.coords t) (win0_0.fill (grid0.coords t) d' blk) b w g acc := by
  unfold accNext k0_pay7
  rw [pay6_fill t d d' blk]
theorem zNext_fill (t : Fin grid0.N) (d d' : S7168x256.Idx → Elt F .f32) (blk : (win0_0.xblock (grid0.coords t)).Idx → Elt F .f32)
    (b : Vec F S1x1x7168 .i32) (w : Vec F S256x1 .f32) (g : Vec F S1x1 .f32) (z : Vec F S512x1 .f32) :
    zNext (grid0.coords t) (win0_0.fill (grid0.coords t) d blk) b w g z = zNext (grid0.coords t) (win0_0.fill (grid0.coords t) d' blk) b w g z := by
  unfold zNext k0_pay8 k0_pay7
  rw [pay6_fill t d d' blk]

end Cert.KernelIdeal.Pool

end
-- ==== Proof.Ideal.Frame.lean ====
/-
  The kernel's run: from the launch to the end of the pipeline, over any float values.

  Between the points the body carries two scratch buffers, the weighted rows and the exponentials accumulated so far.
  `carried m c n` is what they hold before point `n`, as a function of the memory at launch; `between m c n` is the
  invariant that says so. `body_obligation` proves the body at every point by the three runs of it, and
  `run_main_quiescent` is the whole launch, `frame` what it leaves of the arguments.
-/
module

public import proofs.«01_k».proof.Proof.Ideal.Mask
public import Idealize.ShloMosaic.Lib.Claim

@[expose] public section

set_option maxRecDepth 16384

noncomputable section

namespace Cert.KernelIdeal.Pool

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the carried buffers hold -/

/-- The block of rows at point `t`, filled out past the array's end with zero words that the mask drops. -/
def rowsAt (c : Dev nD) (t : Fin cfg0.N) : Vec F S7168x256 .f32 :=
  win0_0.fill (grid0.coords t) (fun _ => Scalar.ofBits .f32 0#32) (iblk m c 0 t)

/-- The body's update of the two carried buffers at point `t`. -/
def stepAt (c : Dev nD) (t : Fin cfg0.N) (s : Vec F S512x256 .f32 × Vec F S512x1 .f32) : Vec F S512x256 .f32 × Vec F S512x1 .f32 :=
  (accNext (grid0.coords t) (rowsAt m c t) (iblk m c 1 t) (iblk m c 2 t) (iblk m c 3 t) s.1,
    zNext (grid0.coords t) (rowsAt m c t) (iblk m c 1 t) (iblk m c 2 t) (iblk m c 3 t) s.2)

/-- What the two carried buffers hold after `n` points, from zero. -/
def carried (c : Dev nD) : ℕ → Vec F S512x256 .f32 × Vec F S512x1 .f32
  | 0 => (k0_pay4, k0_pay5)
  | n + 1 => if h : n < cfg0.N then stepAt m c ⟨n, h⟩ (carried c n) else carried c n

theorem carried_succ (c : Dev nD) (t : Fin cfg0.N) : carried m c (t.val + 1) = stepAt m c t (carried m c t.val) := by
  show (if h : t.val < cfg0.N then stepAt m c ⟨t.val, h⟩ (carried m c t.val) else carried m c t.val) = _
  rw [dif_pos t.isLt]

/-- The invariant before point `n`: nothing known of the scratch buffers before the first point, what they carry after. -/
def between (c : Dev nD) : (n : ℕ) → n ≤ cfg0.N → sProp 𝕄
  | 0, _ => Pipeline.ΦA spec0 c
  | n + 1, _ => iprop(iprop(owns (c : Thread nD τ) (Memref.whole cc0_scratch0) fullShare (carried m c (n + 1)).1
      ∗ owns (c : Thread nD τ) (Memref.whole cc0_scratch1) fullShare (carried m c (n + 1)).2) ∗ (∃ r, prngReg c r))

theorem between_zero (c : Dev nD) (n : ℕ) (h : n ≤ cfg0.N) (hz : n = 0) : between m c n h = Pipeline.ΦA spec0 c := by
  subst hz; rfl

theorem between_pos (c : Dev nD) (n : ℕ) (h : n ≤ cfg0.N) (hz : n ≠ 0) :
    between m c n h = iprop(iprop(owns (c : Thread nD τ) (Memref.whole cc0_scratch0) fullShare (carried m c n).1
      ∗ owns (c : Thread nD τ) (Memref.whole cc0_scratch1) fullShare (carried m c n).2) ∗ (∃ r, prngReg c r)) := by
  cases n with
  | zero => exact absurd rfl hz
  | succ n => rfl

/-- What the launch hands the region: the two scratch buffers and the generator register, at anything. -/
theorem launch_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d))
      ∗ (∃ r, prngReg c r)) := by
  unfold Pipeline.ΦA; rw [scopedRest0_eq]; simp only [owns_whole]; try rfl

/-! ## The proof data -/

/-- The pipeline's data on device `c`: the arrays as the region finds them; the inputs' staging buffers left at their
    blocks; the result's, written at the last point only, at the quotient of what is carried there. -/
def dats (_ : Fin 1) (c : Dev nD) : Dat τ (Elt F) Unit ℕ (UR sig nD τ) ℕ cfg0 c where
  A w := V m c (Pipeline.arrRef spec0 w)
  after w t := match w with
    | ⟨0, _⟩ => rowsAt m c t
    | ⟨1, _⟩ => iblk m c 1 t
    | ⟨2, _⟩ => iblk m c 2 t
    | ⟨3, _⟩ => iblk m c 3 t
    | ⟨4, _⟩ => k0_pay3 (carried m c (t.val + 1)).2 (carried m c (t.val + 1)).1
  Φ t := between m c t.val (Nat.le_of_lt_succ t.isLt)
  q _ := fullShare
  owed _ := 0

theorem A_eq (c : Dev nD) (w : Fin cfg0.W) : (dats m 0 c).A w = V m c (Pipeline.arrRef spec0 w) := by dsimp only [dats]

theorem Φ_castSucc (c : Dev nD) (t : Fin cfg0.N) :
    (dats m 0 c).Φ t.castSucc = between m c t.val (Nat.le_of_lt t.isLt) := by
  dsimp only [dats]; exact Pipeline.Dat.Φ_castSucc (between m c) t

theorem Φ_succ (c : Dev nD) (t : Fin cfg0.N) :
    (dats m 0 c).Φ t.succ = iprop(iprop(owns (c : Thread nD τ) (Memref.whole cc0_scratch0) fullShare (carried m c (t.val + 1)).1
      ∗ owns (c : Thread nD τ) (Memref.whole cc0_scratch1) fullShare (carried m c (t.val + 1)).2) ∗ (∃ r, prngReg c r)) := rfl

theorem after_0 (c : Dev nD) (t : Fin cfg0.N) : (dats m 0 c).after 0 t = rowsAt m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = k0_pay3 (carried m c (t.val + 1)).2 (carried m c (t.val + 1)).1 := by dsimp only [dats]

/-! ## The conditions, over the grid -/

theorem atFirst_iff : ∀ t : Fin cfg0.N, atFirst (grid0.coords t) ↔ t.val = 0 :=
  (fun t => by
    have ht : t.val < 7 := Nat.lt_of_lt_of_eq t.isLt N_0
    have e0 : (grid0.coords t 0).val = t.val := coord_val t
    simp only [atFirst, e0]; word_cmp : ∀ t : Fin grid0.N, atFirst (grid0.coords t) ↔ t.val = 0)

theorem atLast_iff : ∀ t : Fin cfg0.N, atLast (grid0.coords t) ↔ t.val = 6 :=
  (fun t => by
    have ht : t.val < 7 := Nat.lt_of_lt_of_eq t.isLt N_0
    have e0 : (grid0.coords t 0).val = t.val := coord_val t
    simp only [atLast, k0_cond2, e0]; word_cmp : ∀ t : Fin grid0.N, atLast (grid0.coords t) ↔ t.val = 6)

theorem idle_4 : ∀ t : Fin cfg0.N, t.val ≠ 6 → cfg0.idle 4 (grid0.coords t) = true := by decide +kernel
theorem noflush_4 : ∀ t : Fin cfg0.N, t.val ≠ 6 → (cfg0.win 4).flush t = false := by decide +kernel
theorem live_4 : ∀ t : Fin cfg0.N, t.val = 6 → cfg0.idle 4 (grid0.coords t) = false := by decide +kernel

/-! ## What the body finds and leaves in each staging buffer -/

theorem before_0 (c : Dev nD) (t : Fin cfg0.N) (d) :
    (dats m 0 c).before 0 t d = win0_0.fill (grid0.coords t) d (iblk m c 0 t) := by
  unfold Dat.before; rw [if_pos (fetch0_0 t)]; rfl
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- The rows' buffer is left with its block on the rows inside the array, and anything past them. -/
theorem leaves_0 (c : Dev nD) (t : Fin cfg0.N) : ((dats m 0 c).leaves 0 t : sProp 𝕄)
    = iprop(∃ d, owns (c : Thread nD τ) (st0_0 t) fullShare (win0_0.fill (grid0.coords t) d (iblk m c 0 t))) := by
  have e : win0_0.cut (grid0.coords t) ((dats m 0 c).after 0 t) = iblk m c 0 t := by
    rw [after_0]; exact win0_0.cut_fill _ _ _
  show iprop(∃ d, owns (c : Thread nD τ) (st0_0 t) fullShare (win0_0.fill (grid0.coords t) d (win0_0.cut (grid0.coords t) ((dats m 0 c).after 0 t)))) = _
  rw [e]
theorem leaves_1 (c : Dev nD) (t : Fin cfg0.N) : ((dats m 0 c).leaves 1 t : sProp 𝕄)
    = owns (c : Thread nD τ) (st0_1 t) fullShare (iblk m c 1 t) := by
  rw [← after_1]
theorem leaves_2 (c : Dev nD) (t : Fin cfg0.N) : ((dats m 0 c).leaves 2 t : sProp 𝕄)
    = owns (c : Thread nD τ) (st0_2 t) fullShare (iblk m c 2 t) := by
  rw [← after_2]
theorem leaves_3 (c : Dev nD) (t : Fin cfg0.N) : ((dats m 0 c).leaves 3 t : sProp 𝕄)
    = owns (c : Thread nD τ) (st0_3 t) fullShare (iblk m c 3 t) := by
  rw [← after_3]
theorem leaves_4 (c : Dev nD) (t : Fin cfg0.N) (h : t.val = 6) : ((dats m 0 c).leaves 4 t : sProp 𝕄)
    = owns (c : Thread nD τ) (st0_4 t) fullShare (k0_pay3 (carried m c (t.val + 1)).2 (carried m c (t.val + 1)).1) := by
  rw [← after_4]; unfold Dat.leaves; rw [live_4 t h]

/-- The updates, from a staging buffer of rows that holds anything past the array's end. -/
theorem acc_step (c : Dev nD) (t : Fin cfg0.N) (d : S7168x256.Idx → Elt F .f32) :
    accNext (grid0.coords t) (win0_0.fill (grid0.coords t) d (iblk m c 0 t)) (iblk m c 1 t) (iblk m c 2 t) (iblk m c 3 t) (carried m c t.val).1
      = (carried m c (t.val + 1)).1 := by
  rw [carried_succ]; exact accNext_fill t _ _ _ _ _ _ _
theorem z_step (c : Dev nD) (t : Fin cfg0.N) (d : S7168x256.Idx → Elt F .f32) :
    zNext (grid0.coords t) (win0_0.fill (grid0.coords t) d (iblk m c 0 t)) (iblk m c 1 t) (iblk m c 2 t) (iblk m c 3 t) (carried m c t.val).2
      = (carried m c (t.val + 1)).2 := by
  rw [carried_succ]; exact zNext_fill t _ _ _ _ _ _ _

/-! ## The body's obligation -/

/-- What the body is called with at point `t`, the windows one by one. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- What it gives back. -/
def returned (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t)

set_option maxHeartbeats 2000000 in
/-- The body at any point, by which of the three cases the point is. -/
theorem sound_body (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3]
  rw [show (dats m 0 c).owesAt () t.succ = (dats m 0 c).owesAt () t.castSucc from rfl]
  rw [Φ_succ, Φ_castSucc, leaves_0, leaves_1, leaves_2, leaves_3]
  have hN : t.val < 7 := lt_of_lt_of_eq t.isLt (show cfg0.N = 7 from N_0)
  by_cases h0 : t.val = 0
  · have h1 : t.val ≠ 6 := by omega
    rw [Dat.leaves_idle (dats m 0 c) 4 t (idle_4 t h1) (noflush_4 t h1)]
    rw [between_zero m c _ _ h0, launch_eq]
    iintro ⟨⟨⟨HS0, HS1⟩, Hg⟩, Ho, ⟨%d0, H0⟩, ⟨%d1, H1⟩, ⟨%d2, H2⟩, ⟨%d3, H3⟩, ⟨%d4, H4⟩⟩
    have ea := acc_step m c t d0
    have ez := z_step m c t d0
    rw [show carried m c t.val = (k0_pay4, k0_pay5) by rw [h0]; rfl] at ea ez
    rw [← ea, ← ez]
    iapply (run_first c (grid0.coords t) _ _ _ _ _ _ _ _ _ _ _ _ _ _ ((atFirst_iff t).mpr h0) (fun h => h1 ((atLast_iff t).mp h)) _ _ _ _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexists d0; iexact H0
    isplitl [H1]; · iexact H1
    isplitl [H2]; · iexact H2
    isplitl [H3]; · iexact H3
    iexists d4; iexact H4
  · rw [between_pos m c _ _ h0]
    by_cases h1 : t.val = 6
    · rw [leaves_4 m c t h1]
      iintro ⟨⟨⟨HS0, HS1⟩, Hg⟩, Ho, ⟨%d0, H0⟩, ⟨%d1, H1⟩, ⟨%d2, H2⟩, ⟨%d3, H3⟩, ⟨%d4, H4⟩⟩
      rw [← acc_step m c t d0, ← z_step m c t d0]
      iapply (run_last c (grid0.coords t) _ _ _ _ _ _ _ _ _ _ _ _ _ _ (fun h => h0 ((atFirst_iff t).mp h)) ((atLast_iff t).mpr h1) _ _ _ _ _ _ Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      isplitl [H3]; · iexact H3
      iexact H4
    · rw [Dat.leaves_idle (dats m 0 c) 4 t (idle_4 t h1) (noflush_4 t h1)]
      iintro ⟨⟨⟨HS0, HS1⟩, Hg⟩, Ho, ⟨%d0, H0⟩, ⟨%d1, H1⟩, ⟨%d2, H2⟩, ⟨%d3, H3⟩, ⟨%d4, H4⟩⟩
      rw [← acc_step m c t d0, ← z_step m c t d0]
      iapply (run_mid c (grid0.coords t) _ _ _ _ _ _ _ _ _ _ _ _ _ _ (fun h => h0 ((atFirst_iff t).mp h)) (fun h => h1 ((atLast_iff t).mp h)) _ _ _ _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexists d0; iexact H0
      isplitl [H1]; · iexact H1
      isplitl [H2]; · iexact H2
      isplitl [H3]; · iexact H3
      iexists d4; iexact H4

/-- The pipeline's call of the body at a point is the printed body on that point's staging buffers. -/
theorem call_row (t : Fin cfg0.N) : defs₀ (F := F) .tc cfg0.body (cfg0.bodyArgs t (cfg0.slots t)) = bodyAt0 t := by
  unfold defs₀; rw [Defs.onTc_tc]

theorem body_obligation (c : Dev nD) : BodyObligationLoose (dats (F := F) m 0 c) (defs₀ (F := F)) Variants.none () Set.univ := fun t => by
  rw [bigSep_W0, bigSep_W0, call_row]
  exact triple_restated (sound_body m c t) rfl .rfl fun _ => .rfl

/-- The invariant before the first point is what the launch hands over, -/
theorem enter (c : Dev nD) : Pipeline.ΦA spec0 c ⊢ (dats m 0 c).Φ 0 := Idealize.SL.BI.Entails.refl _

/-- and after the last point the buffers' contents are forgotten again. -/
theorem leave (c : Dev nD) : (dats m 0 c).Φ (Fin.last cfg0.N) ⊢ Pipeline.ΦA spec0 c := by
  rw [show (dats m 0 c).Φ (Fin.last cfg0.N) = between m c cfg0.N le_rfl from rfl,
    between_pos m c _ _ (by have : cfg0.N = 7 := N_0; omega), launch_eq]
  iintro ⟨⟨HS0, HS1⟩, Hg⟩
  isplitl [HS0 HS1]
  · isplitl [HS0]
    · iexists _; iexact HS0
    iexists _; iexact HS1
  iexact Hg

/-! ## The run -/

-- the library theorem's implicit arguments are found by unifying its conclusion, through plain definitions in their types
set_option backward.isDefEq.respectTransparency.types false in
/-- Every execution from a memory with zero counters ends, with the pipeline's arrays at what the data say, every other
    buffer as the region found it, and every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := enter m) (hout := leave m)

theorem run_main : θ_run defs (onTc (τ := τ) (main (F := F))) (s₀ m ρ) (Pipeline.FramePost cfgs (dats m) 0 (V m)) :=
  (θ_run defs _ _).mono (fun _ h => h.1) (run_main_quiescent m ρ)

/-- The arguments end as they were, and every counter is zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Pool

end
-- ==== Proof.Math.Softmax.lean ====
/-
  The mathematics of one segment, over the extended reals.

  The rows of a segment have gates `g i`, none of them minus infinity, and words `x i`. The kernel divides the sum of
  `exp (g i) * x i` by the sum of `exp (g i)`, or answers zero when that sum is not positive. The softmax subtracts the
  segment's greatest gate first (zero in its place when it is not finite), divides each exponential by the sum of the
  exponentials, and sums the words times the quotients. `pool_eq` says that the two agree: on an empty segment both are
  zero; where a gate is plus infinity the divisor is plus infinity and both are zero; otherwise all exponentials are
  positive real numbers and the factor `exp (-max)` cancels.
-/
module

public import Idealize.ShloMosaic.PureOps.Ideal

@[expose] public section

noncomputable section

namespace Cert.PoolMath

open Idealize.ShloMosaic

/-- The maximum with a value that is not finite replaced by zero. -/
def guarded (M : EReal) : EReal := if M = ⊤ ∨ M = ⊥ then 0 else M

theorem exp_nonneg (a : EReal) : 0 ≤ Ideal.exp a := by
  induction a with
  | bot => exact le_refl _
  | top => exact le_top
  | coe r => exact EReal.coe_nonneg.mpr (Real.exp_pos r).le

theorem exp_pos {a : EReal} (h : a ≠ ⊥) : 0 < Ideal.exp a := by
  induction a with
  | bot => exact absurd rfl h
  | top => exact EReal.zero_lt_top
  | coe r => exact EReal.coe_pos.mpr (Real.exp_pos r)

theorem div_top (a : EReal) : Ideal.div a ⊤ = 0 := by
  unfold Ideal.div
  rw [if_neg (by exact EReal.zero_lt_top.ne'), EReal.inv_top, mul_zero]

/-- A positive real factor goes into a sum of extended reals. -/
theorem sum_mul_real {ι : Type} (I : Finset ι) (a : ι → EReal) {c : ℝ} (hc : 0 ≤ c) :
    (∑ i ∈ I, a i) * (c : EReal) = ∑ i ∈ I, a i * (c : EReal) := by
  classical
  induction I using Finset.induction_on with
  | empty => simp
  | insert j I hj ih =>
    rw [Finset.sum_insert hj, Finset.sum_insert hj, ← ih]
    exact EReal.right_distrib_of_nonneg_of_ne_top (EReal.coe_nonneg.mpr hc) (EReal.coe_ne_top c) _ _

theorem coe_sum {ι : Type} (I : Finset ι) (a : ι → ℝ) : ((∑ i ∈ I, a i : ℝ) : EReal) = ∑ i ∈ I, (a i : EReal) := by
  classical
  induction I using Finset.induction_on with
  | empty => simp
  | insert j I hj ih => rw [Finset.sum_insert hj, Finset.sum_insert hj, EReal.coe_add, ih]

/-- Division by a positive real number. -/
theorem div_real (a : EReal) {z : ℝ} (hz : 0 < z) : Ideal.div a (z : EReal) = a * ((z⁻¹ : ℝ) : EReal) := by
  unfold Ideal.div
  rw [if_neg (by exact (EReal.coe_pos.mpr hz).ne'), EReal.coe_inv]

/-- The kernel's quotient of a segment is the softmax's weighted sum. -/
theorem pool_eq {ι : Type} (I : Finset ι) (g x : ι → EReal) (hg : ∀ i ∈ I, g i ≠ ⊥) :
    (if 0 < ∑ i ∈ I, Ideal.exp (g i) then Ideal.div (∑ i ∈ I, Ideal.exp (g i) * x i) (∑ i ∈ I, Ideal.exp (g i)) else 0)
      = ∑ i ∈ I, x i * Ideal.div (Ideal.exp (g i - guarded (I.sup g))) (∑ j ∈ I, Ideal.exp (g j - guarded (I.sup g))) := by
  classical
  rcases I.eq_empty_or_nonempty with rfl | hne
  · simp
  have hpos : 0 < ∑ i ∈ I, Ideal.exp (g i) := by
    obtain ⟨i, hi⟩ := hne
    exact lt_of_lt_of_le (exp_pos (hg i hi)) (Finset.single_le_sum (f := fun i => Ideal.exp (g i)) (fun j _ => exp_nonneg _) hi)
  rw [if_pos hpos]
  by_cases htop : ∃ i ∈ I, g i = ⊤
  · obtain ⟨i, hi, hgi⟩ := htop
    have hM : I.sup g = ⊤ := top_le_iff.mp (hgi ▸ Finset.le_sup (f := g) hi)
    have hG : guarded (I.sup g) = 0 := by unfold guarded; rw [if_pos (Or.inl hM)]
    have hZ : ∑ i ∈ I, Ideal.exp (g i) = ⊤ := by
      refine top_le_iff.mp (le_trans (le_of_eq ?_) (Finset.single_le_sum (f := fun i => Ideal.exp (g i)) (fun j _ => exp_nonneg _) hi))
      show ⊤ = Ideal.exp (g i)
      rw [hgi]; rfl
    simp only [hG, sub_zero, hZ, div_top, mul_zero, Finset.sum_const_zero]
  · -- every gate is a real number
    have hreal : ∀ i ∈ I, ((g i).toReal : EReal) = g i := fun i hi =>
      EReal.coe_toReal (fun h => htop ⟨i, hi, h⟩) (hg i hi)
    obtain ⟨k, hk, hMk⟩ := Finset.exists_mem_eq_sup I hne g
    have hG : guarded (I.sup g) = ((g k).toReal : EReal) := by
      rw [hMk, hreal k hk]
      unfold guarded
      rw [if_neg]
      rintro (h | h)
      · exact htop ⟨k, hk, h⟩
      · exact hg k hk h
    rw [hG]
    generalize (g k).toReal = μ
    set r : ι → ℝ := fun i => (g i).toReal with hr
    have hE : ∀ i ∈ I, Ideal.exp (g i) = ((Real.exp (r i) : ℝ) : EReal) := fun i hi => by
      rw [← hreal i hi]; rfl
    have he : ∀ i ∈ I, Ideal.exp (g i - (μ : EReal)) = ((Real.exp (r i - μ) : ℝ) : EReal) := fun i hi => by
      rw [← hreal i hi, ← EReal.coe_sub]; rfl
    have hZ : ∑ i ∈ I, Ideal.exp (g i) = ((∑ i ∈ I, Real.exp (r i) : ℝ) : EReal) := by
      rw [coe_sum]; exact Finset.sum_congr rfl hE
    have hZ' : ∑ i ∈ I, Ideal.exp (g i - (μ : EReal)) = ((∑ i ∈ I, Real.exp (r i - μ) : ℝ) : EReal) := by
      rw [coe_sum]; exact Finset.sum_congr rfl he
    have hz : 0 < ∑ i ∈ I, Real.exp (r i) := Finset.sum_pos (fun i _ => Real.exp_pos _) hne
    have hz' : 0 < ∑ i ∈ I, Real.exp (r i - μ) := Finset.sum_pos (fun i _ => Real.exp_pos _) hne
    have hzz : ∑ i ∈ I, Real.exp (r i - μ) = (∑ i ∈ I, Real.exp (r i)) * Real.exp (-μ) := by
      rw [Finset.sum_mul]
      exact Finset.sum_congr rfl fun i _ => by rw [← Real.exp_add, sub_eq_add_neg]
    rw [hZ, hZ', div_real _ hz, sum_mul_real _ _ (inv_nonneg.mpr hz.le)]
    refine Finset.sum_congr rfl fun i hi => ?_
    rw [hE i hi, he i hi, div_real _ hz', mul_comm (((Real.exp (r i) : ℝ) : EReal)) (x i), mul_assoc, ← EReal.coe_mul, ← EReal.coe_mul]
    congr 2
    rw [hzz, sub_eq_add_neg, Real.exp_add]
    have h1 : Real.exp (-μ) ≠ 0 := (Real.exp_pos _).ne'
    have h2 := hz.ne'
    field_simp

end Cert.PoolMath

end
-- ==== Proof.Math.Blocks.lean ====
/-
  A sum over 50000 rows, taken in blocks of 7168: a row past the end adds zero.
-/
module

public import proofs.«01_k».proof.Proof.Math.Softmax

@[expose] public section

noncomputable section

namespace Cert.PoolMath

/-- The summand of a row by its number, zero past the last row. -/
def ext (f : Fin 50000 → EReal) (n : ℕ) : EReal := if h : n < 50000 then f ⟨n, h⟩ else 0

/-- The sum over the rows of the first `n` blocks. -/
def upTo (f : Fin 50000 → EReal) (n : ℕ) : EReal := ∑ j ∈ Finset.range (7168 * n), ext f j

theorem upTo_zero (f : Fin 50000 → EReal) : upTo f 0 = 0 := rfl

/-- One more block. -/
theorem upTo_succ (f : Fin 50000 → EReal) (n : ℕ) :
    upTo f (n + 1) = upTo f n + ∑ q : Fin 7168, ext f (q.val + 7168 * n) := by
  unfold upTo
  rw [Nat.mul_succ, Finset.sum_range_add, Finset.sum_range (n := 7168)]
  exact congrArg _ (Finset.sum_congr rfl fun q _ => by rw [Nat.add_comm])

/-- Seven blocks are all rows. -/
theorem upTo_all (f : Fin 50000 → EReal) : upTo f 7 = ∑ r : Fin 50000, f r := by
  unfold upTo
  rw [show 7168 * 7 = 50000 + 176 from rfl, Finset.sum_range_add, Finset.sum_range (n := 50000)]
  have h : ∑ x ∈ Finset.range 176, ext f (50000 + x) = 0 := Finset.sum_eq_zero fun x _ => by
    unfold ext
    rw [dif_neg (by omega)]
  rw [h, add_zero]
  exact Finset.sum_congr rfl fun r _ => by
    unfold ext
    rw [dif_pos r.isLt]

end Cert.PoolMath

end
-- ==== Proof.Ref.Scatter.lean ====
/-
  Where the updates of the reference's two scatters land, and the two scatters read at an element.

  `resultIdx_col`: entry `p` of a list of scalars lands at the entry its index word names. `resultIdx_row`: entry
  `(p, l)` of a list of rows lands in the row its index word names, in column `l`. `scatterAdd_col` and
  `scatterAdd_row`: over the extended reals, from zeros, an element of the result is the sum of the updates whose
  word names its row.
-/
module

public import Idealize.ShloMosaic.Lib.Routing.OpsPair
public import Idealize.ShloMosaic.PureOps.Ideal

@[expose] public section

noncomputable section

namespace Cert.PoolMath

open Idealize.ShloMosaic Idealize.ShloMosaic.ValueIdx Idealize.ShloMosaic.Routing

/-- An update of a list of scalars lands at the entry its word names. -/
theorem resultIdx_col {N n w : Nat} (d : ScatterDims (shape1 N) (shape2 n 1) (shape1 n)) (huw : d.updateWindowDims = [])
    (hiw : d.insertedWindowDims = [0]) (hsd : d.scatterDimsToOperandDims = [0]) (hivd : d.indexVectorDim = 1)
    (idx : IVec (shape2 n 1) w) (p : Fin n) (s : Fin N) :
    d.resultIdx? (ix1 p) idx = some (ix1 s) ↔ (idx (ix2 p (0 : Fin 1))).toInt = s.val := by
  obtain ⟨uw, iw, sd, iv, wf⟩ := d
  dsimp only at huw hiw hsd hivd
  subst huw hiw hsd hivd
  rw [resultIdx?_ix1]
  have hs : ScatterDims.start ⟨[], [0], [0], 1, wf⟩ (ix1 p) idx 0 = (idx (ix2 p (0 : Fin 1))).toInt := by
    unfold ScatterDims.start
    rw [dif_pos (by simp)]
    congr 2
    funext a
    match a with
    | ⟨0, _⟩ => rfl
    | ⟨1, _⟩ => rfl
  have hw : ScatterDims.window ⟨[], [0], [0], 1, wf⟩ (ix1 p) 0 = 0 := rfl
  rw [hs, hw]
  simp

/-- An update of a list of rows lands in the row its word names, in its own column. -/
theorem resultIdx_row {N n C w : Nat} (d : ScatterDims (shape2 N C) (shape2 n 1) (shape2 n C)) (huw : d.updateWindowDims = [1])
    (hiw : d.insertedWindowDims = [0]) (hsd : d.scatterDimsToOperandDims = [0]) (hivd : d.indexVectorDim = 1)
    (idx : IVec (shape2 n 1) w) (p : Fin n) (l : Fin C) (s : Fin N) (l' : Fin C) :
    d.resultIdx? (ix2 p l) idx = some (ix2 s l') ↔ (idx (ix2 p (0 : Fin 1))).toInt = s.val ∧ l = l' := by
  obtain ⟨uw, iw, sd, iv, wf⟩ := d
  dsimp only at huw hiw hsd hivd
  subst huw hiw hsd hivd
  rw [resultIdx?_ix2]
  have hs : ScatterDims.start ⟨[1], [0], [0], 1, wf⟩ (ix2 p l) idx 0 = (idx (ix2 p (0 : Fin 1))).toInt := by
    unfold ScatterDims.start
    rw [dif_pos (by simp)]
    congr 2
    funext a
    match a with
    | ⟨0, _⟩ => rfl
    | ⟨1, _⟩ => rfl
  have hs1 : ScatterDims.start ⟨[1], [0], [0], 1, wf⟩ (ix2 p l) idx 1 = 0 := rfl
  have hw : ScatterDims.window ⟨[1], [0], [0], 1, wf⟩ (ix2 p l) 0 = 0 := rfl
  have hw1 : ScatterDims.window ⟨[1], [0], [0], 1, wf⟩ (ix2 p l) 1 = l.val := rfl
  rw [hs, hs1, hw, hw1, Fin.ext_iff]
  simp

/-- A scatter of scalars: each entry's old value, and the sum of the updates whose word names it. -/
theorem scatterAdd_col {N n w : Nat} (d : ScatterDims (shape1 N) (shape2 n 1) (shape1 n)) (huw : d.updateWindowDims = [])
    (hiw : d.insertedWindowDims = [0]) (hsd : d.scatterDimsToOperandDims = [0]) (hivd : d.indexVectorDim = 1)
    (x : (shape1 N).Idx → EReal) (idx : IVec (shape2 n 1) w) (upd : (shape1 n).Idx → EReal) (s : Fin N) :
    Ideal.hostScatterAdd d x idx upd (ix1 s)
      = x (ix1 s) + ∑ p ∈ Finset.univ.filter (fun p : Fin n => (idx (ix2 p (0 : Fin 1))).toInt = s.val), upd (ix1 p) := by
  unfold Ideal.hostScatterAdd
  refine congrArg (x (ix1 s) + ·) (Eq.symm ?_)
  refine Finset.sum_bij (fun p _ => ix1 p) (fun p hp => ?_) (fun p _ q _ h => congrFun h 0) (fun j hj => ?_) (fun p _ => rfl)
  · rw [Finset.mem_filter] at hp ⊢
    exact ⟨Finset.mem_univ _, (resultIdx_col d huw hiw hsd hivd idx p s).mpr hp.2⟩
  · rw [Finset.mem_filter] at hj
    obtain ⟨q, rfl⟩ : ∃ q : Fin n, ix1 q = j := ⟨j 0, by funext a; match a with | ⟨0, _⟩ => rfl⟩
    exact ⟨q, Finset.mem_filter.mpr ⟨Finset.mem_univ _, (resultIdx_col d huw hiw hsd hivd idx q s).mp hj.2⟩, rfl⟩

/-- A scatter of rows: each element's old value, and the sum of its column over the rows whose word names its row. -/
theorem scatterAdd_row {N n C w : Nat} (d : ScatterDims (shape2 N C) (shape2 n 1) (shape2 n C)) (huw : d.updateWindowDims = [1])
    (hiw : d.insertedWindowDims = [0]) (hsd : d.scatterDimsToOperandDims = [0]) (hivd : d.indexVectorDim = 1)
    (x : (shape2 N C).Idx → EReal) (idx : IVec (shape2 n 1) w) (upd : (shape2 n C).Idx → EReal) (s : Fin N) (l : Fin C) :
    Ideal.hostScatterAdd d x idx upd (ix2 s l)
      = x (ix2 s l) + ∑ p ∈ Finset.univ.filter (fun p : Fin n => (idx (ix2 p (0 : Fin 1))).toInt = s.val), upd (ix2 p l) := by
  unfold Ideal.hostScatterAdd
  refine congrArg (x (ix2 s l) + ·) (Eq.symm ?_)
  refine Finset.sum_bij (fun p _ => ix2 p l) (fun p hp => ?_) (fun p _ q _ h => congrFun h 0) (fun j hj => ?_) (fun p _ => rfl)
  · rw [Finset.mem_filter] at hp ⊢
    exact ⟨Finset.mem_univ _, (resultIdx_row d huw hiw hsd hivd idx p l s l).mpr ⟨hp.2, rfl⟩⟩
  · rw [Finset.mem_filter] at hj
    obtain ⟨q, k, rfl⟩ : ∃ (q : Fin n) (k : Fin C), ix2 q k = j := ⟨j 0, j 1, by
      funext a
      match a with
      | ⟨0, _⟩ => rfl
      | ⟨1, _⟩ => rfl⟩
    obtain ⟨h, rfl⟩ := (resultIdx_row d huw hiw hsd hivd idx q k s l).mp hj.2
    exact ⟨q, Finset.mem_filter.mpr ⟨Finset.mem_univ _, h⟩, rfl⟩

end Cert.PoolMath

end
-- ==== Proof.Ref.Value.lean ====
/-
  The reference's result at an element, over the extended reals.

  Where every row `r` names a segment `sg r`, entry `(s, l)` of the result is the sum, over the rows of segment `s`, of
  the word `(r, l)` times the row's share: the exponential of the row's gate minus the segment's greatest gate (zero in
  its place when that is not finite), divided by the sum of those exponentials over the segment.
-/
module

public import proofs.«01_k».proof.Proof.Bits.Frame
public import proofs.«01_k».proof.Proof.Math.Blocks
public import proofs.«01_k».proof.Proof.Ref.Scatter
public import proofs.«01_k».proof.Proof.Gen.ReferenceIdeal.Run
public import proofs.«01_k».proof.Proof.Gen.ReferenceIdeal.Read
public import Idealize.ShloMosaic.Lib.Routing.OpsSearch
public import Idealize.ShloMosaic.Lib.IdealHost
public import Idealize.ShloMosaic.Lib.KernelVsHost
public import Idealize.ShloMosaic.Lib.Pointwise

@[expose] public section

set_option maxRecDepth 16384

noncomputable section

namespace Cert.ReferenceIdeal.Pool

open Cert.ReferenceIdeal Cert.ReferenceIdeal.Gen Cert.ReferenceIdeal.Read Cert.PoolMath
open Idealize.ShloMosaic hiding ix1 ix2
open Idealize.ShloMosaic.ValueIdx (ix1 ix2)
open Idealize.ShloMosaic.Routing (take_ap wrap_of_lt shape1 shape2)

/-- The gate of a row: its words times the weights, and the bias. -/
def gate (x0 : S50000x256.Idx → EReal) (x2 : S256x1.Idx → EReal) (x3 : S1.Idx → EReal) (r : Fin 50000) : EReal :=
  (∑ k : Fin 256, x0 (ix2 r k) * x2 (ix2 k (0 : Fin 1))) + x3 (ix1 (0 : Fin 1))

variable (x0 : (⟨S50000x256, .f32⟩ : BufTy).Contents (Elt Ideal)) (x1 : (⟨S50000, .i32⟩ : BufTy).Contents (Elt Ideal))
variable (x2 : (⟨S256x1, .f32⟩ : BufTy).Contents (Elt Ideal)) (x3 : (⟨S1, .f32⟩ : BufTy).Contents (Elt Ideal))

/-- The reference's gate of a row. -/
theorem gate_at (r : Fin 50000) : val_main_v4 (F := Ideal) x0 x2 x3 (ix1 r) = gate x0 x2 x3 r := by
  have e : idx_main_v4 (ix1 r) = ix2 r (0 : Fin 1) := by
    funext a
    match a with
    | ⟨0, _⟩ => exact Fin.ext (Nat.div_one _)
    | ⟨1, _⟩ => rfl
  rw [val_main_v4_apply, e, val_main_v3_apply, val_main_v2_apply, val_main_v1_apply, val_main_v0_apply]
  unfold gate
  refine congrArg₂ (fun a b : EReal => a + b) (Finset.sum_congr rfl fun k _ => ?_) (congrArg x3 ?_)
  · refine congrArg₂ (fun a b : EReal => a * b) (congrArg x0 ?_) (congrArg x2 ?_)
    · funext a
      match a with
      | ⟨0, _⟩ => rfl
      | ⟨1, _⟩ => rfl
    · funext a
      match a with
      | ⟨0, _⟩ => rfl
      | ⟨1, _⟩ => rfl
  · funext a
    match a with
    | ⟨0, _⟩ => rfl

variable (sg : Fin 50000 → Fin 512) (hsg : ∀ r : Fin 50000, x1 (ix1 r) = BitVec.ofNat 32 (sg r).val)

include hsg

/-- Whether row `r` is a member of segment `s`. -/
theorem member_at (s : Fin 512) (r : Fin 50000) :
    val_main_v10 (F := Ideal) x1 (ix2 s r) = if sg r = s then 1#1 else 0#1 := by
  rw [val_main_v10_apply, val_main_v8_apply, val_main_v6_apply, val_main_v5_apply, val_main_v9_apply, val_main_v7_apply]
  have e9 : idx_main_v7 (idx_main_v9 (ix2 s r)) = ix1 r := by
    funext a
    match a with
    | ⟨0, _⟩ => rfl
  rw [e9, hsg r]
  show IntOp.cmpi .eq (BitVec.ofNat 32 s.val) (BitVec.ofNat 32 (sg r).val) = _
  rw [WordCmp.cmpi_eq_eq]
  by_cases h : sg r = s
  · rw [if_pos h, h]; simp
  · rw [if_neg h]
    have : ¬ BitVec.ofNat 32 s.val = BitVec.ofNat 32 (sg r).val := fun q => h (Fin.ext (by
      have := congrArg BitVec.toNat q
      simp only [BitVec.toNat_ofNat] at this
      have := s.isLt
      have := (sg r).isLt
      omega))
    simp [this]

/-- The gates of a segment, minus infinity outside it. -/
theorem masked_at (s : Fin 512) (r : Fin 50000) :
    val_main_v12 (F := Ideal) x0 x1 x2 x3 (ix2 s r) = if sg r = s then gate x0 x2 x3 r else ⊥ := by
  rw [val_main_v12_apply, member_at x1 sg hsg, val_main_call0_v1_apply, val_main_v11_apply, val_main_call0_v2_apply]
  have e : idx_main_v11 (idx_main_call0_v1 (ix2 s r)) = ix1 r := by
    funext a
    match a with
    | ⟨0, _⟩ => rfl
  rw [e, gate_at]
  by_cases h : sg r = s
  · rw [if_pos h, if_pos h]; rfl
  · rw [if_neg h, if_neg h]
    show Ideal.ofBits .f32 0xFF800000#32 = ⊥
    simp [Ideal.ofBits, Ideal.ieee]

/-- The greatest gate of a segment. -/
theorem max_at (s : Fin 512) :
    val_main_v13 (F := Ideal) x0 x1 x2 x3 (ix1 s) = (Finset.univ.filter fun r => sg r = s).sup (gate x0 x2 x3) := by
  unfold val_main_v13
  rw [Host.reduce_eq_fold, Shape.ReducesTo.fold_fiber_r2_a1]
  have hb : val_main_cst_0 (F := Ideal) (Shape.Idx.first h_S_) = (⊥ : EReal) := by
    show Ideal.ofBits .f32 0xFF800000#32 = ⊥
    simp [Ideal.ofBits, Ideal.ieee]
  rw [hb]
  have h1 : ∀ k : Fin 50000, val_main_v12 (F := Ideal) x0 x1 x2 x3 (ix2 s k) = if sg k = s then gate x0 x2 x3 k else ⊥ := masked_at x0 x1 x2 x3 sg hsg s
  have h2 : (Finset.univ : Finset (Fin 50000)).sup (fun k => if sg k = s then gate x0 x2 x3 k else ⊥)
      = (Finset.univ.filter fun r => sg r = s).sup (gate x0 x2 x3) := by
    apply le_antisymm
    · refine Finset.sup_le fun k _ => ?_
      split
      · next h => exact Finset.le_sup (f := gate x0 x2 x3) (Finset.mem_filter.mpr ⟨Finset.mem_univ _, h⟩)
      · exact bot_le
    · refine Finset.sup_le fun k hk => ?_
      refine le_trans (le_of_eq ?_) (Finset.le_sup (f := fun k => if sg k = s then gate x0 x2 x3 k else ⊥) (Finset.mem_univ k))
      exact (if_pos (Finset.mem_filter.mp hk).2).symm
  rw [← h2]
  exact congrArg (fun f => Finset.fold max (⊥ : EReal) f (Finset.univ : Finset (Fin 50000))) (funext h1)

/-- The greatest gate, guarded. -/
theorem guard_at (s : Fin 512) :
    val_main_v17 (F := Ideal) x0 x1 x2 x3 (ix1 s) = guarded ((Finset.univ.filter fun r => sg r = s).sup (gate x0 x2 x3)) := by
  rw [val_main_v17_apply, val_main_v16_apply, val_main_v14_apply, val_main_v15_apply, max_at x0 x1 x2 x3 sg hsg]
  generalize (Finset.univ.filter fun r => sg r = s).sup (gate x0 x2 x3) = M
  have h0 : val_main_call1_v1 (F := Ideal) (ix1 s) = (0 : EReal) := by
    rw [val_main_call1_v1_apply]
    exact Ideal.ofBits_zero_f32
  have h1 : val_main_cst_1 (F := Ideal) (idx_main_v15 (ix1 s)) = FloatOps.ofBits (F := Ideal) .f32 0x7F800000#32 := rfl
  rw [h0, h1]
  have h2 : FloatOps.cmpf .olt (FloatOps.hostAbsf (F := Ideal) (φ := .f32) M) (FloatOps.ofBits (F := Ideal) .f32 0x7F800000#32)
      = IntOp.xori (FloatOps.weird (F := Ideal) M) 1#1 := (Ideal.xori_weird_eq_hostAbsf_olt_inf M).symm
  have h3 : FloatOps.weird (F := Ideal) M = BitVec.ofBool (decide (M = ⊤ ∨ M = ⊥)) := rfl
  unfold guarded
  refine (congrArg (fun b => Scalar.select b M (0 : EReal)) (h2.trans (congrArg (IntOp.xori · 1#1) h3))).trans ?_
  by_cases h : M = ⊤ ∨ M = ⊥
  · rw [if_pos h, decide_eq_true h]; rfl
  · rw [if_neg h, decide_eq_false h]; rfl

/-- The index words, as the gather reads them: no word is negative, so none is wrapped. -/
theorem word_at (r : Fin 50000) : val_main_v23 (F := Ideal) x1 (ix2 r (0 : Fin 1)) = BitVec.ofNat 32 (sg r).val := by
  have e : idx_main_v23 (ix2 r (0 : Fin 1)) = ix1 r := by
    funext a
    match a with
    | ⟨0, _⟩ => rfl
  rw [val_main_v23_apply, e, val_main_v22_apply, val_main_v19_apply, hsg r]
  refine wrap_of_lt (w := 32) _ _ ?_
  rw [BitVec.toNat_ofNat]
  have := (sg r).isLt
  omega

/-- The index words, as the second gather reads them. -/
theorem word_at' (r : Fin 50000) : val_main_v35 (F := Ideal) x1 (ix2 r (0 : Fin 1)) = BitVec.ofNat 32 (sg r).val :=
  word_at x1 sg hsg r

/-- Each row's segment's greatest gate. -/
theorem taken_at (r : Fin 50000) :
    val_main_v24 (F := Ideal) x0 x1 x2 x3 (ix1 r) = guarded ((Finset.univ.filter fun q => sg q = sg r).sup (gate x0 x2 x3)) := by
  refine (take_ap gather_S512_S50000x1_S50000_n_0_n_n_0_1_1 rfl rfl rfl rfl (val_main_v17 (F := Ideal) x0 x1 x2 x3) (val_main_v23 (F := Ideal) x1) r
    (sg r).isLt (lt_trans (sg r).isLt (by norm_num)) (word_at x1 sg hsg r)).trans ?_
  exact guard_at x0 x1 x2 x3 sg hsg (sg r)

/-- Each row's exponential. -/
theorem exp_at (r : Fin 50000) :
    val_main_v26 (F := Ideal) x0 x1 x2 x3 (ix1 r)
      = Ideal.exp (gate x0 x2 x3 r - guarded ((Finset.univ.filter fun q => sg q = sg r).sup (gate x0 x2 x3))) := by
  rw [val_main_v26_apply, val_main_v25_apply, gate_at, taken_at x0 x1 x2 x3 sg hsg]
  rfl

/-- The rows whose word names a segment are its members. -/
theorem named (s : Fin 512) :
    (Finset.univ.filter fun p : Fin 50000 => (val_main_v28 (F := Ideal) x1 (ix2 p (0 : Fin 1))).toInt = (s.val : Int))
      = Finset.univ.filter fun r => sg r = s := by
  refine Finset.filter_congr fun p _ => ?_
  have e : idx_main_v28 (ix2 p (0 : Fin 1)) = ix1 p := by
    funext a
    match a with
    | ⟨0, _⟩ => rfl
  rw [val_main_v28_apply, e, hsg p, WordCmp.toInt_ofNat_of_lt (w := 32) (lt_trans (sg p).isLt (by norm_num)), Fin.ext_iff]
  exact Int.ofNat_inj

/-- A segment's sum of exponentials. -/
theorem sum_at (s : Fin 512) :
    val_main_v29 (F := Ideal) x0 x1 x2 x3 (ix1 s)
      = ∑ r ∈ Finset.univ.filter (fun r => sg r = s),
          Ideal.exp (gate x0 x2 x3 r - guarded ((Finset.univ.filter fun q => sg q = s).sup (gate x0 x2 x3))) := by
  refine (scatterAdd_col scatter_S512_S50000x1_S50000_n_0_0_1 rfl rfl rfl rfl (val_main_v27 (F := Ideal)) (val_main_v28 (F := Ideal) x1)
    (val_main_v26 (F := Ideal) x0 x1 x2 x3) s).trans ?_
  have h0 : val_main_v27 (F := Ideal) (ix1 s) = (0 : EReal) := by
    rw [val_main_v27_apply]
    exact Ideal.ofBits_zero_f32
  rw [h0, zero_add, named x1 sg hsg s]
  refine Finset.sum_congr rfl fun r hr => ?_
  rw [exp_at x0 x1 x2 x3 sg hsg, (Finset.mem_filter.mp hr).2]

/-- The reference's result: the members' words, weighted by their shares. -/
theorem result_at (s : Fin 512) (l : Fin 256) :
    val_main_v43 (F := Ideal) x0 x1 x2 x3 (ix2 s l)
      = ∑ r ∈ Finset.univ.filter (fun r => sg r = s), x0 (ix2 r l)
          * Ideal.div (Ideal.exp (gate x0 x2 x3 r - guarded ((Finset.univ.filter fun q => sg q = s).sup (gate x0 x2 x3))))
              (∑ r ∈ Finset.univ.filter (fun r => sg r = s),
                Ideal.exp (gate x0 x2 x3 r - guarded ((Finset.univ.filter fun q => sg q = s).sup (gate x0 x2 x3)))) := by
  refine (scatterAdd_row scatter_S512x256_S50000x1_S50000x256_1_0_0_1 rfl rfl rfl rfl (val_main_v41 (F := Ideal)) (val_main_v42 (F := Ideal) x1)
    (val_main_v40 (F := Ideal) x0 x1 x2 x3) s l).trans ?_
  have h0 : val_main_v41 (F := Ideal) (ix2 s l) = (0 : EReal) := by
    rw [val_main_v41_apply]
    exact Ideal.ofBits_zero_f32
  have hn : (Finset.univ.filter fun p : Fin 50000 => (val_main_v42 (F := Ideal) x1 (ix2 p (0 : Fin 1))).toInt = (s.val : Int))
      = Finset.univ.filter fun r => sg r = s := named x1 sg hsg s
  rw [h0, zero_add, hn]
  refine Finset.sum_congr rfl fun r hr => ?_
  have hr' : sg r = s := (Finset.mem_filter.mp hr).2
  rw [val_main_v40_apply, val_main_v39_apply, val_main_v38_apply]
  have e : idx_main_v38 (idx_main_v39 (ix2 r l)) = ix1 r := by
    funext a
    match a with
    | ⟨0, _⟩ => rfl
  rw [e, val_main_v37_apply, exp_at x0 x1 x2 x3 sg hsg, hr']
  have ht : val_main_v36 (F := Ideal) x0 x1 x2 x3 (ix1 r) = val_main_v29 (F := Ideal) x0 x1 x2 x3 (ix1 s) := by
    refine (take_ap gather_S512_S50000x1_S50000_n_0_n_n_0_1_1 rfl rfl rfl rfl (val_main_v29 (F := Ideal) x0 x1 x2 x3) (val_main_v35 (F := Ideal) x1) r
      (sg r).isLt (lt_trans (sg r).isLt (by norm_num)) (word_at' x1 sg hsg r)).trans ?_
    rw [← hr']
  rw [ht, sum_at x0 x1 x2 x3 sg hsg]
  rfl

end Cert.ReferenceIdeal.Pool

end
-- ==== Proof.Ref.Run.lean ====
/-
  The reference's run: it ends with the result of its operations, its arguments as they were, and every semaphore
  counter at zero, since it has none.
-/
module

public import proofs.«01_k».proof.Proof.Ref.Value
public import Idealize.ShloMosaic.Lib.Quiescent
public import Idealize.ShloMosaic.Lib.Claim

@[expose] public section

set_option maxRecDepth 16384

noncomputable section

namespace Cert.ReferenceIdeal.Pool

open Cert.ReferenceIdeal Cert.ReferenceIdeal.Gen
open Idealize.ShloMosaic Idealize.ShloMosaic.TcCoe Idealize.SL.Sem

/-- The reference leaves its arguments as they were and every counter at zero. -/
theorem frame_quiescent {F : FTy → Type} [FloatOps F] (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  Idealize.ShloMosaic.θ_run_mono (Cert.ReferenceIdeal.Value.run m ρ) fun r h =>
    ⟨fun c => (h c).2, sem_eq_zero_of_no_sems (by decide) r.2⟩

end Cert.ReferenceIdeal.Pool

end
-- ==== Proof.Ref.Pre.lean ====
/-
  The precondition, read at a row: every row names one of the 512 segments, and its gate is not minus infinity.
-/
module

public import proofs.«01_k».proof.Proof.Ref.Run
public import proofs.«01_k».proof.Proof.Gen.Pre_rows_with_a_gate

@[expose] public section

set_option maxRecDepth 16384

noncomputable section

namespace Cert.ReferenceIdeal.Pool

open Cert.ReferenceIdeal Cert.ReferenceIdeal.Gen Cert.ReferenceIdeal.Read
open Idealize.ShloMosaic hiding ix1 ix2
open Idealize.ShloMosaic.ValueIdx (ix1 ix2)

/-- The precondition at one row. -/
theorem pre_at [Cert.Pre_rows_with_a_gate.Facts] (x0 : (⟨S50000x256, .f32⟩ : BufTy).Contents (Elt Ideal)) (x1 : (⟨S50000, .i32⟩ : BufTy).Contents (Elt Ideal))
    (x2 : (⟨S256x1, .f32⟩ : BufTy).Contents (Elt Ideal)) (x3 : (⟨S1, .f32⟩ : BufTy).Contents (Elt Ideal))
    (h : Cert.Pre_rows_with_a_gate.fn (F := Ideal) x0 x1 x2 x3 = fun _ => 1#1) (r : Fin 50000) :
    0 ≤ (x1 (ix1 r)).toInt ∧ (x1 (ix1 r)).toInt < 512 ∧ gate x0 x2 x3 r ≠ ⊥ := by
  have hr := congrFun h (ix1 r)
  have hr' : IntOp.andi (IntOp.andi (IntOp.cmpi .sge (x1 (ix1 r)) 0#32) (IntOp.cmpi .slt (x1 (ix1 r)) 512#32))
      (Ideal.cmp .ogt (val_main_v4 (F := Ideal) x0 x2 x3 (ix1 r)) (Ideal.ofBits .f32 0xFF800000#32)) = 1#1 := hr
  have hbot : Ideal.ofBits .f32 0xFF800000#32 = ⊥ := by simp [Ideal.ofBits, Ideal.ieee]
  rw [gate_at, hbot] at hr'
  generalize x1 (ix1 r) = w at hr' ⊢
  generalize gate x0 x2 x3 r = γ at hr' ⊢
  have key : ∀ a b c : Bool, IntOp.andi (IntOp.andi (BitVec.ofBool a) (BitVec.ofBool b)) (BitVec.ofBool c) = 1#1 → a = true ∧ b = true ∧ c = true := by
    decide
  obtain ⟨ha, hb, hc⟩ := key ((0#32).sle w) (w.slt 512#32) (decide ((⊥ : EReal) < γ)) hr'
  refine ⟨?_, ?_, ?_⟩
  · rw [BitVec.sle, decide_eq_true_eq] at ha
    simpa using ha
  · rw [BitVec.slt, decide_eq_true_eq] at hb
    exact lt_of_lt_of_eq hb (by decide)
  · exact bot_lt_iff_ne_bot.mp (of_decide_eq_true hc)

/-- Where the precondition holds, every row names a segment and has a gate above minus infinity. -/
theorem pre_segments [Cert.Pre_rows_with_a_gate.Facts] (x0 : (⟨S50000x256, .f32⟩ : BufTy).Contents (Elt Ideal)) (x1 : (⟨S50000, .i32⟩ : BufTy).Contents (Elt Ideal))
    (x2 : (⟨S256x1, .f32⟩ : BufTy).Contents (Elt Ideal)) (x3 : (⟨S1, .f32⟩ : BufTy).Contents (Elt Ideal))
    (h : Cert.Pre_rows_with_a_gate.fn (F := Ideal) x0 x1 x2 x3 = fun _ => 1#1) :
    ∃ sg : Fin 50000 → Fin 512, (∀ r : Fin 50000, x1 (ix1 r) = BitVec.ofNat 32 (sg r).val) ∧ ∀ r : Fin 50000, gate x0 x2 x3 r ≠ ⊥ := by
  have hlt : ∀ r : Fin 50000, (x1 (ix1 r)).toInt.toNat < 512 := fun r => by
    have := pre_at x0 x1 x2 x3 h r
    omega
  refine ⟨fun r => ⟨(x1 (ix1 r)).toInt.toNat, hlt r⟩, fun r => ?_, fun r => (pre_at x0 x1 x2 x3 h r).2.2⟩
  obtain ⟨h0, h1, _⟩ := pre_at x0 x1 x2 x3 h r
  show x1 (ix1 r) = BitVec.ofNat 32 (x1 (ix1 r)).toInt.toNat
  generalize x1 (ix1 r) = w at h0 h1 ⊢
  apply BitVec.eq_of_toInt_eq
  rw [WordCmp.toInt_ofNat_of_lt (w := 32) (by omega)]
  omega

end Cert.ReferenceIdeal.Pool

end
-- ==== Proof.Value.Payloads.lean ====
/-
  The body's arithmetic at an element, over the extended reals.

  `mask_at`: the masked block of rows. `weight_at`: the exponential of a row's gate in the row of its segment, zero in
  the others. `acc_at`, `z_at`: the two accumulators' updates, sums over the block. `quotient_at`: the result.
-/
module

public import proofs.«01_k».proof.Proof.Ref.Pre

@[expose] public section

set_option maxRecDepth 16384

noncomputable section

namespace Cert.KernelIdeal.Pool

open Cert.KernelIdeal Cert.KernelIdeal.Gen Idealize.ShloMosaic

variable (i : grid0.Coords) (X : Vec Ideal S7168x256 .f32) (B : Vec Ideal S1x1x7168 .i32) (W : Vec Ideal S256x1 .f32) (G : Vec Ideal S1x1 .f32)

/-- A row's exponential, in the row of its segment. -/
theorem weight_at (s : Fin 512) (q : Fin 7168) :
    k0_pay7 i X B W G (ix2 s q)
      = Scalar.select (IntOp.cmpi .eq (BitVec.ofNat 16 s.val) ((B (ix3 (0 : Fin 1) (0 : Fin 1) q)).setWidth 16))
          (Ideal.exp ((∑ k : Fin 256, W (ix2 k (0 : Fin 1)) * k0_pay6 i X (ix2 q k)) + G (ix2 (0 : Fin 1) (0 : Fin 1)))) (0 : EReal) := by
  unfold k0_pay7
  generalize k0_pay6 i X = P
  dsimp only
  pointwise

/-- The block's masked rows: the array's word where the row is one of the 50000, zero elsewhere. -/
theorem mask_at (t : Fin grid0.N) (q : Fin 7168) (k : Fin 256) :
    k0_pay6 (grid0.coords t) X (ix2 q k) = if q.val + 7168 * t.val < 50000 then X (ix2 q k) else (0 : EReal) := by
  rw [pay6_apply]
  show Scalar.select (Scalar.cmpi .slt (Scalar.addi (BitVec.ofNat 32 q.val) (Scalar.muli (BitVec.ofNat 32 (grid0.coords t 0).val) 7168#32)) 50000#32)
      (X (ix2 q k)) (Ideal.ofBits .bf16 0x0000#16) = _
  rw [mask_word t q, Ideal.ofBits_zero_bf16]
  by_cases h : q.val + 7168 * t.val < 50000
  · rw [if_pos h, if_pos h]; rfl
  · rw [if_neg h, if_neg h]; rfl

/-- The weighted rows, updated: the block's weights times its masked rows are added. -/
theorem acc_at (acc : Vec Ideal S512x256 .f32) (s : Fin 512) (l : Fin 256) :
    accNext i X B W G acc (ix2 s l) = acc (ix2 s l) + ∑ q : Fin 7168, k0_pay7 i X B W G (ix2 s q) * k0_pay6 i X (ix2 q l) := by
  unfold accNext k0_pay2
  generalize k0_pay7 i X B W G = E
  generalize k0_pay6 i X = P
  pointwise

/-- The exponentials, updated: the block's weights are added. -/
theorem z_at (z : Vec Ideal S512x1 .f32) (s : Fin 512) :
    zNext i X B W G z (ix2 s (0 : Fin 1)) = z (ix2 s (0 : Fin 1)) + ∑ q : Fin 7168, k0_pay7 i X B W G (ix2 s q) := by
  unfold zNext k0_pay1 k0_pay8
  generalize k0_pay7 i X B W G = E
  pointwise

/-- The result: the weighted rows over the exponentials, zero where these are not positive. -/
theorem quotient_at (z : Vec Ideal S512x1 .f32) (acc : Vec Ideal S512x256 .f32) (s : Fin 512) (l : Fin 256) :
    k0_pay3 z acc (ix2 s l) = if (0 : EReal) < z (ix2 s (0 : Fin 1)) then Ideal.div (acc (ix2 s l)) (z (ix2 s (0 : Fin 1))) else 0 := by
  unfold k0_pay3
  pointwise

/-- The weighted rows begin at zero. -/
theorem acc_zero (s : Fin 512) (l : Fin 256) : k0_pay4 (F := Ideal) (ix2 s l) = (0 : EReal) := by
  unfold k0_pay4
  pointwise

/-- The exponentials begin at zero. -/
theorem z_zero (s : Fin 512) : k0_pay5 (F := Ideal) (ix2 s (0 : Fin 1)) = (0 : EReal) := by
  unfold k0_pay5
  pointwise

end Cert.KernelIdeal.Pool

end
-- ==== Proof.Value.Blocks.lean ====
/-
  The blocks the body reads, in terms of the kernel's arguments.

  At point `t` the block of rows holds rows `7168 t + q` of the array; the block of segment words holds the words of
  those rows, and the word 512 past the array's end; the weights and the bias are the whole arguments at every point.
-/
module

public import proofs.«01_k».proof.Proof.Value.Payloads
public import Idealize.ShloMosaic.Lib.Routing.Ops

@[expose] public section

set_option maxRecDepth 16384

noncomputable section

namespace Cert.KernelIdeal.Pool

open Cert.KernelIdeal Cert.KernelIdeal.Gen Idealize.ShloMosaic Idealize.ShloMosaic.TcCoe

variable {F : FTy → Type} [FloatOps F]
variable (m : (ℓ : Loc nD τ sig) → Buf (Elt F) ℓ)

/-! ## The arrays as the region finds them -/

/-- The segment words, padded with 512 and cut into seven lines. -/
theorem V_words (c : Dev nD) : V m c main_call0_v1
    = shapeCast S7x1x7168 (pad S50176 ![0] ![176] ![0] (m ((c : Thread nD τ).loc main_arg1)) (constantI S_ 32 512#32) pads_S50000_S50176_01760 h_S_)
        shapeCasts_S50176_S7x1x7168 := by
  simp only [V, hostOps0, StableHlo.TRef.nullary, StableHlo.TRef.unary, StableHlo.TRef.binary, StableHlo.TRef.toBuf, StableHlo.TRef.ofBuf, cast_eq]
  after_results_simp <;> rfl

/-- The bias, as a matrix of one element. -/
theorem V_bias (c : Dev nD) : V m c main_call0_v2 = shapeCast S1x1 (m ((c : Thread nD τ).loc main_arg3)) shapeCasts_S1_S1x1 := by
  simp only [V, hostOps0, StableHlo.TRef.nullary, StableHlo.TRef.unary, StableHlo.TRef.binary, StableHlo.TRef.toBuf, StableHlo.TRef.ofBuf, cast_eq]
  after_results_simp <;> rfl

/-! ## Where the blocks sit -/

theorem index_rows : ∀ t : Fin grid0.N, win0_0.index t 0 = t.val ∧ win0_0.index t 1 = 0 := by decide +kernel
theorem index_words : ∀ t : Fin grid0.N, win0_1.index t 0 = t.val ∧ win0_1.index t 1 = 0 ∧ win0_1.index t 2 = 0 := by decide +kernel
theorem index_weights : ∀ t : Fin grid0.N, win0_2.index t 0 = 0 ∧ win0_2.index t 1 = 0 := by decide +kernel
theorem index_bias : ∀ t : Fin grid0.N, win0_3.index t 0 = 0 ∧ win0_3.index t 1 = 0 := by decide +kernel
theorem index_out : ∀ t : Fin grid0.N, win0_4.index t 0 = 0 ∧ win0_4.index t 1 = 0 := by decide +kernel

/-! ## The blocks at an element -/

/-- The block of rows, inside the array. -/
theorem rows_at (c : Dev nD) (t : Fin grid0.N) (q : Fin 7168) (k : Fin 256) (h : q.val + 7168 * t.val < 50000) :
    rowsAt m c t (ix2 q k) = m ((c : Thread nD τ).loc main_arg0) (ix2 (⟨q.val + 7168 * t.val, h⟩ : Fin 50000) k) := by
  have hm := (moved_row t (ix2 q k)).mpr h
  unfold rowsAt Pipeline.Window.fill
  rw [dif_pos hm]
  generalize hy : (fun a => (⟨((ix2 q k : S7168x256.Idx) a).val, _⟩ : Fin _)) = y
  show V m c main_arg0 ((win0_0.rect t).emb y) = _
  rw [V_main_arg0]
  refine congrArg _ (funext fun a => Fin.ext ?_)
  rw [Pipeline.Window.rect_emb_val win0_0 t y a]
  subst hy
  obtain ⟨h0, h1⟩ := index_rows t
  match a with
  | ⟨0, _⟩ =>
    show win0_0.index t 0 * 7168 + q.val = q.val + 7168 * t.val
    rw [h0]; omega
  | ⟨1, _⟩ =>
    show win0_0.index t 1 * 256 + k.val = k.val
    rw [h1]; omega

/-- The block of segment words: the row's word, or 512 past the array's end. -/
theorem words_at (c : Dev nD) (t : Fin grid0.N) (q : Fin 7168) :
    iblk m c 1 t (ix3 (0 : Fin 1) (0 : Fin 1) q)
      = if h : q.val + 7168 * t.val < 50000 then m ((c : Thread nD τ).loc main_arg1) (ix1 (⟨q.val + 7168 * t.val, h⟩ : Fin 50000)) else 512#32 := by
  have ht : t.val < 7 := Nat.lt_of_lt_of_eq t.isLt N_0
  have hq := q.isLt
  have e : iblk m c 1 t (ix3 (0 : Fin 1) (0 : Fin 1) q) = V m c main_call0_v1 (ix3 (⟨t.val, ht⟩ : Fin 7) (0 : Fin 1) q) := by
    show V m c main_call0_v1 ((win0_1.rect t).emb (ix3 (0 : Fin 1) (0 : Fin 1) q)) = _
    refine congrArg _ (funext fun a => Fin.ext ?_)
    rw [Pipeline.Window.rect_emb_val win0_1 t _ a]
    obtain ⟨h0, h1, h2⟩ := index_words t
    match a with
    | ⟨0, _⟩ =>
      show win0_1.index t 0 * 1 + 0 = t.val
      rw [h0]; omega
    | ⟨1, _⟩ =>
      show win0_1.index t 1 * 1 + 0 = 0
      rw [h1]
    | ⟨2, _⟩ =>
      show win0_1.index t 2 * 7168 + q.val = q.val
      rw [h2]; omega
  rw [e, V_words]
  refine (Routing.cast13 (a := 7) (b := 1) (c := 7168) (n := 50176) _ shapeCasts_S50176_S7x1x7168 (⟨t.val, ht⟩ : Fin 7) (0 : Fin 1) q
    (⟨q.val + 7168 * t.val, by omega⟩ : Fin 50176) (by show q.val + 7168 * t.val = (t.val * 1 + 0) * 7168 + q.val; omega)).trans ?_
  refine (Routing.pad1 (n := 50000) (m := 50176) (lo := 0) (hi := 176) _ _ pads_S50000_S50176_01760 h_S_ _).trans ?_
  by_cases h : q.val + 7168 * t.val < 50000
  · rw [dif_pos h, dif_pos ⟨Nat.zero_le _, h⟩]; rfl
  · rw [dif_neg h, dif_neg fun hh => h hh.2]; rfl

/-- The weights, whole at every point. -/
theorem weights_at (c : Dev nD) (t : Fin grid0.N) (k : Fin 256) :
    iblk m c 2 t (ix2 k (0 : Fin 1)) = m ((c : Thread nD τ).loc main_arg2) (ix2 k (0 : Fin 1)) := by
  show V m c main_arg2 ((win0_2.rect t).emb (ix2 k (0 : Fin 1))) = _
  rw [V_main_arg2]
  refine congrArg _ (funext fun a => Fin.ext ?_)
  obtain ⟨h0, h1⟩ := index_weights t
  match a with
  | ⟨0, _⟩ => exact Pipeline.Window.rect_emb_val_of_index_zero win0_2 t 0 h0 _
  | ⟨1, _⟩ => exact Pipeline.Window.rect_emb_val_of_index_zero win0_2 t 1 h1 _

/-- The bias, whole at every point. -/
theorem bias_at (c : Dev nD) (t : Fin grid0.N) :
    iblk m c 3 t (ix2 (0 : Fin 1) (0 : Fin 1)) = m ((c : Thread nD τ).loc main_arg3) (ix1 (0 : Fin 1)) := by
  have e : iblk m c 3 t (ix2 (0 : Fin 1) (0 : Fin 1)) = V m c main_call0_v2 (ix2 (0 : Fin 1) (0 : Fin 1)) := by
    show V m c main_call0_v2 ((win0_3.rect t).emb (ix2 (0 : Fin 1) (0 : Fin 1))) = _
    refine congrArg _ (funext fun a => Fin.ext ?_)
    obtain ⟨h0, h1⟩ := index_bias t
    match a with
    | ⟨0, _⟩ => exact Pipeline.Window.rect_emb_val_of_index_zero win0_3 t 0 h0 _
    | ⟨1, _⟩ => exact Pipeline.Window.rect_emb_val_of_index_zero win0_3 t 1 h1 _
  rw [e, V_bias]
  exact shapeCast_apply _ shapeCasts_S1_S1x1 _ _ (by rw [Shape.rowMajor_val_two, Shape.rowMajor_val_one]; rfl)

/-! ## The result array -/

/-- The result array at the end: the quotient of what is carried after the last point. -/
theorem out_at (c : Dev nD) : (dats m 0 c).arrAt 4 cfg0.N = k0_pay3 (carried m c 7).2 (carried m c 7).1 := by
  have hlast : ∀ t : Fin cfg0.N, (cfg0.win 4).flush t = true → t.val = 6 := fun t hf => by
    have h1 := (flush0_4 t).mp hf
    have h2 : t.val < 7 := Nat.lt_of_lt_of_eq t.isLt N_0
    omega
  refine (dats m 0 c).arrAt_eq_of_cover 4 _ (fun t hf => ?_) (fun i => ?_)
  · have ht := hlast t hf
    obtain ⟨h0, h1⟩ := index_out t
    funext y
    show (dats m 0 c).after 4 t y = k0_pay3 (carried m c 7).2 (carried m c 7).1 ((win0_4.rect t).emb y)
    rw [after_4, ht]
    refine congrArg _ (funext fun a => Fin.ext ?_)
    match a with
    | ⟨0, _⟩ => exact (Pipeline.Window.rect_emb_val_of_index_zero win0_4 t 0 h0 y).symm
    | ⟨1, _⟩ => exact (Pipeline.Window.rect_emb_val_of_index_zero win0_4 t 1 h1 y).symm
  · have h6 : 6 < cfg0.N := by rw [show cfg0.N = 7 from N_0]; decide
    obtain ⟨h0, h1⟩ := index_out ⟨6, h6⟩
    refine ⟨⟨6, h6⟩, (flush0_4 ⟨6, h6⟩).mpr rfl, ?_⟩
    have e : (win0_4.rect ⟨6, h6⟩).emb i = i := funext fun a => Fin.ext (by
      match a with
      | ⟨0, _⟩ => exact Pipeline.Window.rect_emb_val_of_index_zero win0_4 ⟨6, h6⟩ 0 h0 i
      | ⟨1, _⟩ => exact Pipeline.Window.rect_emb_val_of_index_zero win0_4 ⟨6, h6⟩ 1 h1 i)
    rw [← e]
    exact View.emb_mem_set _ _

end Cert.KernelIdeal.Pool

end
-- ==== Proof.Value.Kernel.lean ====
/-
  The kernel's result at an element, over the extended reals.

  Where every row `r` names a segment `sg r`, the two carried buffers hold, after `n` points, the sums over the rows of
  the first `n` blocks: at `(s, l)`, of the exponentials of the gates of segment `s` times the words of column `l`, and
  at `s`, of those exponentials. The result is their quotient, zero where the second is not positive.
-/
module

public import proofs.«01_k».proof.Proof.Value.Blocks

@[expose] public section

set_option maxRecDepth 16384

noncomputable section

namespace Cert.KernelIdeal.Pool

open Cert.KernelIdeal Cert.KernelIdeal.Gen Cert.PoolMath Idealize.ShloMosaic Idealize.ShloMosaic.TcCoe
open Cert.ReferenceIdeal.Pool (gate)

variable (m : (ℓ : Loc nD τ sig) → Buf (Elt Ideal) ℓ) (c : Dev nD)

/-- The kernel's arguments on a device. -/
abbrev rowsArg : S50000x256.Idx → EReal := m ((c : Thread nD τ).loc main_arg0)
abbrev wordsArg : S50000.Idx → BitVec 32 := m ((c : Thread nD τ).loc main_arg1)
abbrev weightsArg : S256x1.Idx → EReal := m ((c : Thread nD τ).loc main_arg2)
abbrev biasArg : S1.Idx → EReal := m ((c : Thread nD τ).loc main_arg3)

/-- The 16-bit comparison of a segment's number with a word below 513 tells whether they are equal. -/
theorem same_word (s : Fin 512) {n : ℕ} (hn : n < 513) :
    IntOp.cmpi .eq (BitVec.ofNat 16 s.val) ((BitVec.ofNat 32 n).setWidth 16) = if n = s.val then 1#1 else 0#1 := by
  have hs := s.isLt
  have e : (BitVec.ofNat 32 n).setWidth 16 = BitVec.ofNat 16 n := BitVec.eq_of_toNat_eq (by
    rw [BitVec.toNat_setWidth, BitVec.toNat_ofNat, BitVec.toNat_ofNat]; omega)
  rw [e, WordCmp.cmpi_eq_eq]
  by_cases h : n = s.val
  · rw [if_pos h, h]; simp
  · rw [if_neg h]
    have : ¬ BitVec.ofNat 16 s.val = BitVec.ofNat 16 n := fun q => h (by
      have := congrArg BitVec.toNat q
      simp only [BitVec.toNat_ofNat] at this
      omega)
    simp [this]

variable (sg : Fin 50000 → Fin 512) (hsg : ∀ r : Fin 50000, wordsArg m c (ix1 r) = BitVec.ofNat 32 (sg r).val)

/-- What a row adds to a segment's exponentials. -/
def share (s : Fin 512) (r : Fin 50000) : EReal :=
  if sg r = s then Ideal.exp (gate (rowsArg m c) (weightsArg m c) (biasArg m c) r) else 0

/-- What a row adds to a segment's weighted rows. -/
def part (s : Fin 512) (l : Fin 256) (r : Fin 50000) : EReal := share m c sg s r * rowsArg m c (ix2 r l)

/-- The body's masked rows. -/
theorem masked_row (t : Fin grid0.N) (q : Fin 7168) (k : Fin 256) :
    k0_pay6 (grid0.coords t) (rowsAt m c t) (ix2 q k)
      = if h : q.val + 7168 * t.val < 50000 then rowsArg m c (ix2 (⟨q.val + 7168 * t.val, h⟩ : Fin 50000) k) else (0 : EReal) := by
  rw [mask_at]
  by_cases h : q.val + 7168 * t.val < 50000
  · rw [if_pos h, dif_pos h]; exact rows_at m c t q k h
  · rw [if_neg h, dif_neg h]

include hsg

/-- The body's weights. -/
theorem weight_row (t : Fin grid0.N) (s : Fin 512) (q : Fin 7168) :
    k0_pay7 (grid0.coords t) (rowsAt m c t) (iblk m c 1 t) (iblk m c 2 t) (iblk m c 3 t) (ix2 s q)
      = ext (share m c sg s) (q.val + 7168 * t.val) := by
  refine (weight_at (grid0.coords t) (rowsAt m c t) (iblk m c 1 t) (iblk m c 2 t) (iblk m c 3 t) s q).trans ?_
  have hw := words_at m c t q
  unfold ext
  by_cases h : q.val + 7168 * t.val < 50000
  · rw [dif_pos h] at hw ⊢
    have hw' : iblk m c 1 t (ix3 (0 : Fin 1) (0 : Fin 1) q) = BitVec.ofNat 32 (sg ⟨q.val + 7168 * t.val, h⟩).val := hw.trans (hsg _)
    have hlt := (sg ⟨q.val + 7168 * t.val, h⟩).isLt
    have hcmp : IntOp.cmpi .eq (BitVec.ofNat 16 s.val) ((iblk m c 1 t (ix3 (0 : Fin 1) (0 : Fin 1) q) : BitVec 32).setWidth 16)
        = if (sg ⟨q.val + 7168 * t.val, h⟩).val = s.val then 1#1 else 0#1 :=
      (congrArg (fun w : BitVec 32 => IntOp.cmpi .eq (BitVec.ofNat 16 s.val) (w.setWidth 16)) hw').trans (same_word s (by omega))
    refine (congrArg (fun b => Scalar.select b _ (0 : EReal)) hcmp).trans ?_
    unfold share
    by_cases he : sg ⟨q.val + 7168 * t.val, h⟩ = s
    · rw [if_pos (congrArg Fin.val he), if_pos he]
      refine congrArg Ideal.exp ?_
      unfold gate
      refine congrArg₂ (fun a b : EReal => a + b) (Finset.sum_congr rfl fun k _ => ?_) (bias_at m c t)
      have e1 := masked_row m c t q k
      rw [dif_pos h] at e1
      exact (congrArg₂ (fun a b : EReal => a * b) (weights_at m c t k) e1).trans (mul_comm _ _)
    · rw [if_neg fun hh => he (Fin.ext hh), if_neg he]; rfl
  · rw [dif_neg h] at hw ⊢
    have hcmp : IntOp.cmpi .eq (BitVec.ofNat 16 s.val) ((iblk m c 1 t (ix3 (0 : Fin 1) (0 : Fin 1) q) : BitVec 32).setWidth 16) = 0#1 :=
      ((congrArg (fun w : BitVec 32 => IntOp.cmpi .eq (BitVec.ofNat 16 s.val) (w.setWidth 16)) hw).trans (same_word s (by omega))).trans
        (if_neg (by have := s.isLt; omega))
    exact congrArg (fun b => Scalar.select b _ (0 : EReal)) hcmp

/-- What a block adds to the weighted rows. -/
theorem part_row (t : Fin grid0.N) (s : Fin 512) (l : Fin 256) (q : Fin 7168) :
    k0_pay7 (grid0.coords t) (rowsAt m c t) (iblk m c 1 t) (iblk m c 2 t) (iblk m c 3 t) (ix2 s q)
        * k0_pay6 (grid0.coords t) (rowsAt m c t) (ix2 q l)
      = ext (part m c sg s l) (q.val + 7168 * t.val) := by
  refine (congrArg₂ (fun a b : EReal => a * b) (weight_row m c sg hsg t s q) (masked_row m c t q l)).trans ?_
  unfold ext
  by_cases h : q.val + 7168 * t.val < 50000
  · simp only [dif_pos h]; rfl
  · simp only [dif_neg h]; exact mul_zero _

/-- What is carried before point `n`. -/
theorem carried_at (s : Fin 512) (l : Fin 256) : ∀ n : ℕ, n ≤ 7 →
    (carried m c n).1 (ix2 s l) = upTo (part m c sg s l) n ∧ (carried m c n).2 (ix2 s (0 : Fin 1)) = upTo (share m c sg s) n
  | 0, _ => ⟨acc_zero s l, z_zero s⟩
  | n + 1, hn => by
    obtain ⟨ha, hz⟩ := carried_at s l n (by omega)
    have hN : n < cfg0.N := by rw [show cfg0.N = 7 from N_0]; omega
    have hs := carried_succ m c ⟨n, hN⟩
    have hs' : carried m c (n + 1) = stepAt m c ⟨n, hN⟩ (carried m c n) := hs
    rw [hs', upTo_succ, upTo_succ, ← ha, ← hz]
    refine ⟨?_, ?_⟩
    · refine (acc_at (grid0.coords ⟨n, hN⟩) (rowsAt m c ⟨n, hN⟩) (iblk m c 1 ⟨n, hN⟩) (iblk m c 2 ⟨n, hN⟩) (iblk m c 3 ⟨n, hN⟩) _ s l).trans ?_
      exact congrArg (fun b : EReal => (carried m c n).1 (ix2 s l) + b) (Finset.sum_congr rfl fun q _ => part_row m c sg hsg ⟨n, hN⟩ s l q)
    · refine (z_at (grid0.coords ⟨n, hN⟩) (rowsAt m c ⟨n, hN⟩) (iblk m c 1 ⟨n, hN⟩) (iblk m c 2 ⟨n, hN⟩) (iblk m c 3 ⟨n, hN⟩) _ s).trans ?_
      exact congrArg (fun b : EReal => (carried m c n).2 (ix2 s (0 : Fin 1)) + b) (Finset.sum_congr rfl fun q _ => weight_row m c sg hsg ⟨n, hN⟩ s q)

/-- The kernel's result: a segment's weighted rows over its exponentials. -/
theorem result_at (s : Fin 512) (l : Fin 256) :
    k0_pay3 (carried m c 7).2 (carried m c 7).1 (ix2 s l)
      = if 0 < ∑ r ∈ Finset.univ.filter (fun r => sg r = s), Ideal.exp (gate (rowsArg m c) (weightsArg m c) (biasArg m c) r)
        then Ideal.div (∑ r ∈ Finset.univ.filter (fun r => sg r = s), Ideal.exp (gate (rowsArg m c) (weightsArg m c) (biasArg m c) r) * rowsArg m c (ix2 r l))
          (∑ r ∈ Finset.univ.filter (fun r => sg r = s), Ideal.exp (gate (rowsArg m c) (weightsArg m c) (biasArg m c) r))
        else 0 := by
  obtain ⟨ha, hz⟩ := carried_at m c sg hsg s l 7 (le_refl _)
  have hz' : (carried m c 7).2 (ix2 s (0 : Fin 1)) = ∑ r ∈ Finset.univ.filter (fun r => sg r = s), Ideal.exp (gate (rowsArg m c) (weightsArg m c) (biasArg m c) r) := by
    rw [hz, upTo_all, Finset.sum_filter]
    rfl
  have ha' : (carried m c 7).1 (ix2 s l)
      = ∑ r ∈ Finset.univ.filter (fun r => sg r = s), Ideal.exp (gate (rowsArg m c) (weightsArg m c) (biasArg m c) r) * rowsArg m c (ix2 r l) := by
    rw [ha, upTo_all, Finset.sum_filter]
    refine Finset.sum_congr rfl fun r _ => ?_
    unfold part share
    by_cases h : sg r = s
    · rw [if_pos h, if_pos h]
    · rw [if_neg h, if_neg h, zero_mul]
  rw [quotient_at, hz', ha']

end Cert.KernelIdeal.Pool

end
-- ==== Proof.Value.Equal.lean ====
/-
  The equation: under the precondition the kernel's result is the reference's, and the two runs end with it.
-/
module

public import proofs.«01_k».proof.Proof.Value.Kernel

@[expose] public section

set_option maxRecDepth 16384

noncomputable section

namespace Cert.KernelIdeal.Pool

open Cert.KernelIdeal Cert.KernelIdeal.Gen Cert.PoolMath Idealize.ShloMosaic Idealize.ShloMosaic.TcCoe Idealize.SL.Sem
open Cert.ReferenceIdeal.Pool (gate)

variable (m : (ℓ : Loc nD τ sig) → Buf (Elt Ideal) ℓ)

/-- The kernel's result on a device. -/
abbrev outOf (c : Dev nD) : S512x256.Idx → EReal := k0_pay3 (carried m c 7).2 (carried m c 7).1

/-- Under the precondition the kernel's result is the reference's. -/
theorem out_eq [Cert.Pre_rows_with_a_gate.Facts] (c : Dev nD)
    (h : Cert.Pre_rows_with_a_gate.fn (F := Ideal) (rowsArg m c) (wordsArg m c) (weightsArg m c) (biasArg m c) = fun _ => 1#1) :
    Cert.ReferenceIdeal.Read.val_main_v43 (F := Ideal) (rowsArg m c) (wordsArg m c) (weightsArg m c) (biasArg m c) = outOf m c := by
  obtain ⟨sg, hsg, hg⟩ := Cert.ReferenceIdeal.Pool.pre_segments _ _ _ _ h
  funext i
  obtain ⟨s, l, rfl⟩ : ∃ (s : Fin 512) (l : Fin 256), ix2 s l = i := ⟨i 0, i 1, funext fun a => by fin_cases a <;> rfl⟩
  refine (Cert.ReferenceIdeal.Pool.result_at _ _ _ _ sg hsg s l).trans (Eq.trans ?_ (result_at m c sg hsg s l).symm)
  exact (pool_eq (Finset.univ.filter fun r => sg r = s) (gate (rowsArg m c) (weightsArg m c) (biasArg m c)) (fun r => rowsArg m c (ix2 r l)) (fun r _ => hg r)).symm

/-- The kernel's run ends with its result, and its arguments as they were. -/
theorem run_value (ρ : Dev nD → PrngReg) : θ_run defs (onTc (τ := τ) (main (F := Ideal))) ⟨m, fun _ => 0, ρ⟩ (fun r => ∀ c : Dev nD,
    r.2.mem ((c.tc : Thread nD τ).loc main_v0) = outOf m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  Idealize.ShloMosaic.θ_run_mono
    (θ_run_and (run_main m ρ) (frame_of m ρ (dats m) (A_eq m) (run_main m ρ)))
    fun r h c => ⟨((h.1 c).1 4).trans (out_at m c), h.2 c⟩

end Cert.KernelIdeal.Pool

end
-- ==== Proof.lean ====
/-
  The claim: the kernel and its idealization run, leave their arguments as they were and every semaphore counter at
  zero, so does the reference; the idealization rewrites nothing; and under the precondition `rows_with_a_gate` the
  kernel and the reference end with the same result over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_rows_with_a_gate
public import proofs.«01_k».proof.Proof.Gen.ReferenceIdeal.Run
public import proofs.«01_k».proof.Proof.Gen.ReferenceIdeal.Read
public import proofs.«01_k».proof.Proof.Value.Equal
public import Idealize.ShloMosaic.Adequacy
public import Idealize.ShloMosaic.Init

@[expose] public section

noncomputable section

namespace Cert.Proof

open Idealize.ShloMosaic Idealize.SL.Sem Cert.Kernel

/-- Under the precondition the kernel and the reference end with the same result. -/
theorem algebraic : Cert.algebraic_KernelIdeal_ReferenceIdeal_pre_rows_with_a_gate (hKernelIdeal := Cert.KernelIdeal.Gen.facts)
    (hReferenceIdeal := Cert.ReferenceIdeal.Gen.facts) (hPre_rows_with_a_gate := Cert.Pre_rows_with_a_gate.Gen.facts) := by
  intro m g m' g' hpre hargs
  refine ⟨fun c => Cert.KernelIdeal.Pool.outOf m c, Cert.KernelIdeal.Pool.run_value m g, ?_⟩
  refine Idealize.ShloMosaic.θ_run_mono (Cert.ReferenceIdeal.Value.run m' g') fun r h c => ⟨?_, (h c).2⟩
  refine (h c).1.trans ((Cert.ReferenceIdeal.Read.val_main_v43_eq m' c).trans ?_)
  obtain ⟨h0, h1, h2, h3⟩ := hargs c
  rw [h0, h1, h2, h3]
  exact Cert.KernelIdeal.Pool.out_eq m c (hpre c)

/-- Every claim. -/
theorem claim : Cert.Claim := ⟨Cert.Kernel.Gen.facts, Cert.KernelIdeal.Gen.facts, Cert.ReferenceIdeal.Gen.facts, Cert.Pre_rows_with_a_gate.Gen.facts,
  fun m g _ => Cert.Kernel.Pool.frame_quiescent m g,
  fun m g _ => Cert.KernelIdeal.Pool.frame_quiescent m g,
  fun m g _ => Cert.KernelIdeal.Pool.frame_quiescent m g,
  fun m g _ => Cert.ReferenceIdeal.Pool.frame_quiescent m g,
  fun m g _ => Cert.ReferenceIdeal.Pool.frame_quiescent m g,
  trivial,
  algebraic⟩

end Cert.Proof

end
